-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x32x256 : Shape := ⟨3, ![4, 32, 256]⟩
abbrev S_ : Shape := ⟨0, ![]⟩

class Facts : Prop where
  bcast_S_S4x32x256 : S_.BroadcastsInDim S4x32x256 (![] : Fin 0 → Fin S4x32x256.rank)
  reducesTo_S4x32x256_S_d0_1_2 : S4x32x256.ReducesTo [0, 1, 2] S_
  h_S_ : 0 < S_.numel

variable [Facts]

def fn {F : FTy → Type} [FloatOps F] (main_arg0 : FVec F S4x32x256 .f32) (main_arg1 : FVec F S4x32x256 .f32) : IVec S_ 1 :=
  let main_v0 : FVec F S4x32x256 .f32 := Host.absf main_arg0
  let main_cst : FVec F S_ .f32 := constant S_ .f32 0x7F800000#32
  let main_v1 : FVec F S4x32x256 .f32 := broadcastInDim S4x32x256 ![] bcast_S_S4x32x256 main_cst
  let main_v2 : IVec S4x32x256 1 := cmpf .olt main_v0 main_v1
  let main_c : IVec S_ 1 := constantI S_ 1 1#1
  let main_v3 : IVec S_ 1 := (fun x v => Host.reduce IntOp.andi x v reducesTo_S4x32x256_S_d0_1_2 h_S_) main_v2 main_c
  let main_v4 : FVec F S4x32x256 .f32 := Host.absf main_arg1
  let main_cst_0 : FVec F S_ .f32 := constant S_ .f32 0x7F800000#32
  let main_v5 : FVec F S4x32x256 .f32 := broadcastInDim S4x32x256 ![] bcast_S_S4x32x256 main_cst_0
  let main_v6 : IVec S4x32x256 1 := cmpf .olt main_v4 main_v5
  let main_c_1 : IVec S_ 1 := constantI S_ 1 1#1
  let main_v7 : IVec S_ 1 := (fun x v => Host.reduce IntOp.andi x v reducesTo_S4x32x256_S_d0_1_2 h_S_) main_v6 main_c_1
  let main_v8 : IVec S_ 1 := andi main_v3 main_v7
  main_v8
-- ==== Kernel.lean ====
abbrev S4x32x256 : Shape := ⟨3, ![4, 32, 256]⟩
abbrev S256 : Shape := ⟨1, ![256]⟩
abbrev S_ : Shape := ⟨0, ![]⟩
abbrev S32 : Shape := ⟨1, ![32]⟩
abbrev S32x1 : Shape := ⟨2, ![32, 1]⟩
abbrev S32x256 : Shape := ⟨2, ![32, 256]⟩
abbrev S8192 : Shape := ⟨1, ![8192]⟩
abbrev S1x256 : Shape := ⟨2, ![1, 256]⟩
abbrev S4x8192 : Shape := ⟨2, ![4, 8192]⟩
abbrev S1x8192 : Shape := ⟨2, ![1, 8192]⟩
abbrev S4x8192x1 : Shape := ⟨3, ![4, 8192, 1]⟩
abbrev S4x8192x3 : Shape := ⟨3, ![4, 8192, 3]⟩
abbrev S4x1x8192 : Shape := ⟨3, ![4, 1, 8192]⟩
abbrev S4x3x8192 : Shape := ⟨3, ![4, 3, 8192]⟩
abbrev S1x1 : Shape := ⟨2, ![1, 1]⟩
abbrev S1x8192x3 : Shape := ⟨3, ![1, 8192, 3]⟩
abbrev S1x3x8192 : Shape := ⟨3, ![1, 3, 8192]⟩
abbrev S1x8192x1 : Shape := ⟨3, ![1, 8192, 1]⟩
abbrev S1x1x8192 : Shape := ⟨3, ![1, 1, 8192]⟩
abbrev S3x8192 : Shape := ⟨2, ![3, 8192]⟩
abbrev S1x1024x3 : Shape := ⟨3, ![1, 1024, 3]⟩
abbrev S1024x3 : Shape := ⟨2, ![1024, 3]⟩
abbrev S1x1024x1 : Shape := ⟨3, ![1, 1024, 1]⟩
abbrev S1024x1 : Shape := ⟨2, ![1024, 1]⟩
abbrev S1024x8192 : Shape := ⟨2, ![1024, 8192]⟩
abbrev S1024 : Shape := ⟨1, ![1024]⟩
abbrev S1x1024 : Shape := ⟨2, ![1, 1024]⟩
abbrev S1 : Shape := ⟨1, ![1]⟩
abbrev S1x1x1 : Shape := ⟨3, ![1, 1, 1]⟩

abbrev nBuf : Space → Nat
  | .hbm => 103
  | .vmem => 10
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S32x1, .f32⟩
  | .hbm, ⟨30, _⟩ => ⟨S32x256, .f32⟩
  | .hbm, ⟨31, _⟩ => ⟨S8192, .f32⟩
  | .hbm, ⟨32, _⟩ => ⟨S32, .f32⟩
  | .hbm, ⟨33, _⟩ => ⟨S32x1, .f32⟩
  | .hbm, ⟨34, _⟩ => ⟨S32x256, .f32⟩
  | .hbm, ⟨35, _⟩ => ⟨S8192, .f32⟩
  | .hbm, ⟨36, _⟩ => ⟨S256, .f32⟩
  | .hbm, ⟨37, _⟩ => ⟨S1x256, .f32⟩
  | .hbm, ⟨38, _⟩ => ⟨S32x256, .f32⟩
  | .hbm, ⟨39, _⟩ => ⟨S8192, .f32⟩
  | .hbm, ⟨40, _⟩ => ⟨S256, .f32⟩
  | .hbm, ⟨41, _⟩ => ⟨S1x256, .f32⟩
  | .hbm, ⟨42, _⟩ => ⟨S32x256, .f32⟩
  | .hbm, ⟨43, _⟩ => ⟨S8192, .f32⟩
  | .hbm, ⟨44, _⟩ => ⟨S4x8192, .f32⟩
  | .hbm, ⟨45, _⟩ => ⟨S4x8192, .f32⟩
  | .hbm, ⟨46, _⟩ => ⟨S1x8192, .f32⟩
  | .hbm, ⟨47, _⟩ => ⟨S4x8192, .f32⟩
  | .hbm, ⟨48, _⟩ => ⟨S4x8192, .f32⟩
  | .hbm, ⟨49, _⟩ => ⟨S1x8192, .f32⟩
  | .hbm, ⟨50, _⟩ => ⟨S4x8192, .f32⟩
  | .hbm, ⟨51, _⟩ => ⟨S4x8192, .f32⟩
  | .hbm, ⟨52, _⟩ => ⟨S1x8192, .f32⟩
  | .hbm, ⟨53, _⟩ => ⟨S4x8192, .f32⟩
  | .hbm, ⟨54, _⟩ => ⟨S4x8192, .f32⟩
  | .hbm, ⟨55, _⟩ => ⟨S1x8192, .f32⟩
  | .hbm, ⟨56, _⟩ => ⟨S4x8192, .f32⟩
  | .hbm, ⟨57, _⟩ => ⟨S4x8192, .f32⟩
  | .hbm, ⟨58, _⟩ => ⟨S1x8192, .f32⟩
  | .hbm, ⟨59, _⟩ => ⟨S4x8192, .f32⟩
  | .hbm, ⟨60, _⟩ => ⟨S4x8192, .f32⟩
  | .hbm, ⟨61, _⟩ => ⟨S1x8192, .f32⟩
  | .hbm, ⟨62, _⟩ => ⟨S4x8192, .f32⟩
  | .hbm, ⟨63, _⟩ => ⟨S4x8192, .f32⟩
  | .hbm, ⟨64, _⟩ => ⟨S1x8192, .f32⟩
  | .hbm, ⟨65, _⟩ => ⟨S4x8192, .f32⟩
  | .hbm, ⟨66, _⟩ => ⟨S4x8192, .f32⟩
  | .hbm, ⟨67, _⟩ => ⟨S1x8192, .f32⟩
  | .hbm, ⟨68, _⟩ => ⟨S4x8192, .f32⟩
  | .hbm, ⟨69, _⟩ => ⟨S4x8192, .f32⟩
  | .hbm, ⟨70, _⟩ => ⟨S4x8192, .f32⟩
  | .hbm, ⟨71, _⟩ => ⟨S4x8192, .f32⟩
  | .hbm, ⟨72, _⟩ => ⟨S4x8192, .f32⟩
  | .hbm, ⟨73, _⟩ => ⟨S4x8192, .f32⟩
  | .hbm, ⟨74, _⟩ => ⟨S4x8192, .f32⟩
  | .hbm, ⟨75, _⟩ => ⟨S4x8192, .f32⟩
  | .hbm, ⟨76, _⟩ => ⟨S4x8192, .f32⟩
  | .hbm, ⟨77, _⟩ => ⟨S4x8192, .f32⟩
  | .hbm, ⟨78, _⟩ => ⟨S4x8192, .f32⟩
  | .hbm, ⟨79, _⟩ => ⟨S4x8192, .f32⟩
  | .hbm, ⟨80, _⟩ => ⟨S_, .f32⟩
  | .hbm, ⟨81, _⟩ => ⟨S4x8192, .f32⟩
  | .hbm, ⟨82, _⟩ => ⟨S4x8192, .f32⟩
  | .hbm, ⟨83, _⟩ => ⟨S_, .f32⟩
  | .hbm, ⟨84, _⟩ => ⟨S4x8192, .f32⟩
  | .hbm, ⟨85, _⟩ => ⟨S4x8192, .f32⟩
  | .hbm, ⟨86, _⟩ => ⟨S_, .f32⟩
  | .hbm, ⟨87, _⟩ => ⟨S4x8192, .f32⟩
  | .hbm, ⟨88, _⟩ => ⟨S4x8192, .f32⟩
  | .hbm, ⟨89, _⟩ => ⟨S4x8192x1, .f32⟩
  | .hbm, ⟨90, _⟩ => ⟨S4x8192x1, .f32⟩
  | .hbm, ⟨91, _⟩ => ⟨S4x8192x1, .f32⟩
  | .hbm, ⟨92, _⟩ => ⟨S4x8192x3, .f32⟩
  | .hbm, ⟨93, _⟩ => ⟨S4x8192x3, .bf16⟩
  | .hbm, ⟨94, _⟩ => ⟨S4x1x8192, .f32⟩
  | .hbm, ⟨95, _⟩ => ⟨S4x1x8192, .f32⟩
  | .hbm, ⟨96, _⟩ => ⟨S4x1x8192, .f32⟩
  | .hbm, ⟨97, _⟩ => ⟨S4x3x8192, .f32⟩
  | .hbm, ⟨98, _⟩ => ⟨S4x3x8192, .bf16⟩
  | .hbm, ⟨99, _⟩ => ⟨S4x8192x1, .f32⟩
  | .hbm, ⟨100, _⟩ => ⟨S4x1x8192, .f32⟩
  | .hbm, ⟨101, _⟩ => ⟨S1x1, .f32⟩
  | .hbm, ⟨102, _⟩ => ⟨S_, .f32⟩
  | .local _ .vmem, ⟨0, _⟩ => ⟨S1x8192x3, .bf16⟩
  | .local _ .vmem, ⟨1, _⟩ => ⟨S1x8192x3, .bf16⟩
  | .local _ .vmem, ⟨2, _⟩ => ⟨S1x3x8192, .bf16⟩
  | .local _ .vmem, ⟨3, _⟩ => ⟨S1x3x8192, .bf16⟩
  | .local _ .vmem, ⟨4, _⟩ => ⟨S1x8192x1, .f32⟩
  | .local _ .vmem, ⟨5, _⟩ => ⟨S1x8192x1, .f32⟩
  | .local _ .vmem, ⟨6, _⟩ => ⟨S1x1x8192, .f32⟩
  | .local _ .vmem, ⟨7, _⟩ => ⟨S1x1x8192, .f32⟩
  | .local _ .vmem, ⟨8, _⟩ => ⟨S1x1, .f32⟩
  | .local _ .vmem, ⟨9, _⟩ => ⟨S1x8192, .f32⟩
  | _, _ => ⟨S4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_cst_0 : Ref sig .tc := ⟨.hbm, 6, rfl⟩
abbrev main_call0_v3 : Ref sig .tc := ⟨.hbm, 7, rfl⟩
abbrev main_call0_v4 : Ref sig .tc := ⟨.hbm, 8, rfl⟩
abbrev main_call0_cst_1 : Ref sig .tc := ⟨.hbm, 9, rfl⟩
abbrev main_call0_v5 : Ref sig .tc := ⟨.hbm, 10, rfl⟩
abbrev main_call0_v6 : Ref sig .tc := ⟨.hbm, 11, rfl⟩
abbrev main_call0_cst_2 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_cst_3 : Ref sig .tc := ⟨.hbm, 16, rfl⟩
abbrev main_call0_v10 : Ref sig .tc := ⟨.hbm, 17, rfl⟩
abbrev main_call0_v11 : Ref sig .tc := ⟨.hbm, 18, rfl⟩
abbrev main_call0_cst_4 : Ref sig .tc := ⟨.hbm, 19, rfl⟩
abbrev main_call0_v12 : Ref sig .tc := ⟨.hbm, 20, rfl⟩
abbrev main_call0_v13 : Ref sig .tc := ⟨.hbm, 21, rfl⟩
abbrev main_call0_cst_5 : Ref sig .tc := ⟨.hbm, 22, rfl⟩
abbrev main_call0_v14 : Ref sig .tc := ⟨.hbm, 23, rfl⟩
abbrev main_call0_v15 : Ref sig .tc := ⟨.hbm, 24, rfl⟩
abbrev main_call0_cst_6 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_v31 : Ref sig .tc := ⟨.hbm, 41, rfl⟩
abbrev main_call0_v32 : Ref sig .tc := ⟨.hbm, 42, rfl⟩
abbrev main_call0_v33 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_call0_v38 : Ref sig .tc := ⟨.hbm, 48, rfl⟩
abbrev main_call0_v39 : Ref sig .tc := ⟨.hbm, 49, rfl⟩
abbrev main_call0_v40 : Ref sig .tc := ⟨.hbm, 50, rfl⟩
abbrev main_call0_v41 : Ref sig .tc := ⟨.hbm, 51, rfl⟩
abbrev main_call0_v42 : Ref sig .tc := ⟨.hbm, 52, rfl⟩
abbrev main_call0_v43 : Ref sig .tc := ⟨.hbm, 53, rfl⟩
abbrev main_call0_v44 : Ref sig .tc := ⟨.hbm, 54, rfl⟩
abbrev main_call0_v45 : Ref sig .tc := ⟨.hbm, 55, rfl⟩
abbrev main_call0_v46 : Ref sig .tc := ⟨.hbm, 56, rfl⟩
abbrev main_call0_v47 : Ref sig .tc := ⟨.hbm, 57, rfl⟩
abbrev main_call0_v48 : Ref sig .tc := ⟨.hbm, 58, rfl⟩
abbrev main_call0_v49 : Ref sig .tc := ⟨.hbm, 59, rfl⟩
abbrev main_call0_v50 : Ref sig .tc := ⟨.hbm, 60, rfl⟩
abbrev main_call0_v51 : Ref sig .tc := ⟨.hbm, 61, rfl⟩
abbrev main_call0_v52 : Ref sig .tc := ⟨.hbm, 62, rfl⟩
abbrev main_call0_v53 : Ref sig .tc := ⟨.hbm, 63, rfl⟩
abbrev main_call0_v54 : Ref sig .tc := ⟨.hbm, 64, rfl⟩
abbrev main_call0_v55 : Ref sig .tc := ⟨.hbm, 65, rfl⟩
abbrev main_call0_v56 : Ref sig .tc := ⟨.hbm, 66, rfl⟩
abbrev main_call0_v57 : Ref sig .tc := ⟨.hbm, 67, rfl⟩
abbrev main_call0_v58 : Ref sig .tc := ⟨.hbm, 68, rfl⟩
abbrev main_call0_v59 : Ref sig .tc := ⟨.hbm, 69, rfl⟩
abbrev main_call0_v60 : Ref sig .tc := ⟨.hbm, 70, rfl⟩
abbrev main_call0_v61 : Ref sig .tc := ⟨.hbm, 71, rfl⟩
abbrev main_call0_v62 : Ref sig .tc := ⟨.hbm, 72, rfl⟩
abbrev main_call0_v63 : Ref sig .tc := ⟨.hbm, 73, rfl⟩
abbrev main_call0_v64 : Ref sig .tc := ⟨.hbm, 74, rfl⟩
abbrev main_call0_v65 : Ref sig .tc := ⟨.hbm, 75, rfl⟩
abbrev main_call0_v66 : Ref sig .tc := ⟨.hbm, 76, rfl⟩
abbrev main_call0_v67 : Ref sig .tc := ⟨.hbm, 77, rfl⟩
abbrev main_call0_v68 : Ref sig .tc := ⟨.hbm, 78, rfl⟩
abbrev main_call0_v69 : Ref sig .tc := ⟨.hbm, 79, rfl⟩
abbrev main_call0_cst_7 : Ref sig .tc := ⟨.hbm, 80, rfl⟩
abbrev main_call0_v70 : Ref sig .tc := ⟨.hbm, 81, rfl⟩
abbrev main_call0_v71 : Ref sig .tc := ⟨.hbm, 82, rfl⟩
abbrev main_call0_cst_8 : Ref sig .tc := ⟨.hbm, 83, rfl⟩
abbrev main_call0_v72 : Ref sig .tc := ⟨.hbm, 84, rfl⟩
abbrev main_call0_v73 : Ref sig .tc := ⟨.hbm, 85, rfl⟩
abbrev main_call0_cst_9 : Ref sig .tc := ⟨.hbm, 86, rfl⟩
abbrev main_call0_v74 : Ref sig .tc := ⟨.hbm, 87, rfl⟩
abbrev main_call0_v75 : Ref sig .tc := ⟨.hbm, 88, rfl⟩
abbrev main_call0_v76 : Ref sig .tc := ⟨.hbm, 89, rfl⟩
abbrev main_call0_v77 : Ref sig .tc := ⟨.hbm, 90, rfl⟩
abbrev main_call0_v78 : Ref sig .tc := ⟨.hbm, 91, rfl⟩
abbrev main_call0_v79 : Ref sig .tc := ⟨.hbm, 92, rfl⟩
abbrev main_call0_v80 : Ref sig .tc := ⟨.hbm, 93, rfl⟩
abbrev main_call0_v81 : Ref sig .tc := ⟨.hbm, 94, rfl⟩
abbrev main_call0_v82 : Ref sig .tc := ⟨.hbm, 95, rfl⟩
abbrev main_call0_v83 : Ref sig .tc := ⟨.hbm, 96, rfl⟩
abbrev main_call0_v84 : Ref sig .tc := ⟨.hbm, 97, rfl⟩
abbrev main_call0_v85 : Ref sig .tc := ⟨.hbm, 98, rfl⟩
abbrev main_call0_v86 : Ref sig .tc := ⟨.hbm, 99, rfl⟩
abbrev main_call0_v87 : Ref sig .tc := ⟨.hbm, 100, rfl⟩
abbrev main_call0_v88 : Ref sig .tc := ⟨.hbm, 101, rfl⟩
abbrev main_v0 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_9 : BitVec 32 := 0#32
  let c8_i32 : BitVec 32 := 8#32
  let v11 : BitVec 32 := Scalar.addi c0_i32_9 c8_i32
  let c1_i32 : BitVec 32 := 1#32
  ⟨c0_i32_9, v11, c1_i32⟩
def k0_off1 (k0_t1 : Fin k0_t1_loop.trips) : Fin 3 → Nat :=
  let c0_20 : Index := 0#32
  let c0_i32_9 : BitVec 32 := 0#32
  let c1_i32 : BitVec 32 := 1#32
  let arg7 : BitVec 32 := Scf.iv c0_i32_9 c1_i32 k0_t1
  let c1024_i32 : BitVec 32 := 1024#32
  let v28 : BitVec 32 := Scalar.muli arg7 c1024_i32
  let v29 : Index := Scalar.indexCast v28
  let c0_21 : Index := 0#32
  ![0, v29.toNat, 0]
def k0_off2 (k0_t1 : Fin k0_t1_loop.trips) : Fin 3 → Nat :=
  let c0_23 : Index := 0#32
  let c0_i32_9 : BitVec 32 := 0#32
  let c1_i32 : BitVec 32 := 1#32
  let arg7 : BitVec 32 := Scf.iv c0_i32_9 c1_i32 k0_t1
  let c1024_i32_22 : BitVec 32 := 1024#32
  let v32 : BitVec 32 := Scalar.muli arg7 c1024_i32_22
  let v33 : Index := Scalar.indexCast v32
  let c0_24 : Index := 0#32
  ![0, v33.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8192x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x32x256 : Shape := ⟨3, ![4, 32, 256]⟩
abbrev S_ : Shape := ⟨0, ![]⟩
abbrev S256 : Shape := ⟨1, ![256]⟩
abbrev S32 : Shape := ⟨1, ![32]⟩
abbrev S1x256 : Shape := ⟨2, ![1, 256]⟩
abbrev S32x256 : Shape := ⟨2, ![32, 256]⟩
abbrev S32x1 : Shape := ⟨2, ![32, 1]⟩
abbrev S1x32x256 : Shape := ⟨3, ![1, 32, 256]⟩
abbrev S4x32x256x1 : Shape := ⟨4, ![4, 32, 256, 1]⟩
abbrev S4x32x256x4 : Shape := ⟨4, ![4, 32, 256, 4]⟩
abbrev S4x8192x4 : Shape := ⟨3, ![4, 8192, 4]⟩
abbrev S4x8192x3 : Shape := ⟨3, ![4, 8192, 3]⟩
abbrev S4 : Shape := ⟨1, ![4]⟩
abbrev S1x8192x3 : Shape := ⟨3, ![1, 8192, 3]⟩
abbrev S8192x3 : Shape := ⟨2, ![8192, 3]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩
abbrev S1 : Shape := ⟨1, ![1]⟩

abbrev nBuf : Space → Nat
  | .hbm => 180
  | .vmem => 0
  | .smem => 0
  | _ => 0

abbrev hbmTy0_0 (i : Nat) : BufTy := match i % 128 with
  | 0 => ⟨S4x32x256, .f32⟩
  | 1 => ⟨S4x32x256, .f32⟩
  | 2 => ⟨S_, .f32⟩
  | 3 => ⟨S4x32x256, .f32⟩
  | 4 => ⟨S4x32x256, .f32⟩
  | 5 => ⟨S256, .f32⟩
  | 6 => ⟨S_, .f32⟩
  | 7 => ⟨S256, .f32⟩
  | 8 => ⟨S256, .f32⟩
  | 9 => ⟨S_, .f32⟩
  | 10 => ⟨S256, .f32⟩
  | 11 => ⟨S256, .f32⟩
  | 12 => ⟨S_, .f32⟩
  | 13 => ⟨S256, .f32⟩
  | 14 => ⟨S256, .f32⟩
  | 15 => ⟨S_, .f32⟩
  | 16 => ⟨S256, .f32⟩
  | 17 => ⟨S256, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S1x256, .f32⟩
  | 32 => ⟨S32x256, .f32⟩
  | 33 => ⟨S32x1, .f32⟩
  | 34 => ⟨S32x256, .f32⟩
  | 35 => ⟨S32x256, .f32⟩
  | 36 => ⟨S1x32x256, .f32⟩
  | 37 => ⟨S4x32x256, .f32⟩
  | 38 => ⟨S4x32x256, .f32⟩
  | 39 => ⟨S32x256, .f32⟩
  | 40 => ⟨S1x32x256, .f32⟩
  | 41 => ⟨S4x32x256, .f32⟩
  | 42 => ⟨S4x32x256, .f32⟩
  | 43 => ⟨S32x256, .f32⟩
  | 44 => ⟨S1x32x256, .f32⟩
  | 45 => ⟨S4x32x256, .f32⟩
  | 46 => ⟨S4x32x256, .f32⟩
  | 47 => ⟨S32x256, .f32⟩
  | 48 => ⟨S1x32x256, .f32⟩
  | 49 => ⟨S4x32x256, .f32⟩
  | 50 => ⟨S4x32x256, .f32⟩
  | 51 => ⟨S32x256, .f32⟩
  | 52 => ⟨S1x32x256, .f32⟩
  | 53 => ⟨S4x32x256, .f32⟩
  | 54 => ⟨S4x32x256, .f32⟩
  | 55 => ⟨S4x32x256x1, .f32⟩
  | 56 => ⟨S4x32x256x1, .f32⟩
  | 57 => ⟨S4x32x256x1, .f32⟩
  | 58 => ⟨S4x32x256x1, .f32⟩
  | 59 => ⟨S4x32x256x4, .f32⟩
  | 60 => ⟨S4x8192x4, .f32⟩
  | 61 => ⟨S_, .f32⟩
  | 62 => ⟨S4x32x256, .f32⟩
  | 63 => ⟨S4x32x256, .f32⟩
  | 64 => ⟨S256, .f32⟩
  | 65 => ⟨S_, .f32⟩
  | 66 => ⟨S256, .f32⟩
  | 67 => ⟨S256, .f32⟩
  | 68 => ⟨S_, .f32⟩
  | 69 => ⟨S256, .f32⟩
  | 70 => ⟨S256, .f32⟩
  | 71 => ⟨S_, .f32⟩
  | 72 => ⟨S256, .f32⟩
  | 73 => ⟨S256, .f32⟩
  | 74 => ⟨S_, .f32⟩
  | 75 => ⟨S256, .f32⟩
  | 76 => ⟨S256, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S1x256, .f32⟩
  | 91 => ⟨S32x256, .f32⟩
  | 92 => ⟨S32x1, .f32⟩
  | 93 => ⟨S32x256, .f32⟩
  | 94 => ⟨S32x256, .f32⟩
  | 95 => ⟨S1x32x256, .f32⟩
  | 96 => ⟨S4x32x256, .f32⟩
  | 97 => ⟨S4x32x256, .f32⟩
  | 98 => ⟨S32x256, .f32⟩
  | 99 => ⟨S1x32x256, .f32⟩
  | 100 => ⟨S4x32x256, .f32⟩
  | 101 => ⟨S4x32x256, .f32⟩
  | 102 => ⟨S32x256, .f32⟩
  | 103 => ⟨S1x32x256, .f32⟩
  | 104 => ⟨S4x32x256, .f32⟩
  | 105 => ⟨S4x32x256, .f32⟩
  | 106 => ⟨S32x256, .f32⟩
  | 107 => ⟨S1x32x256, .f32⟩
  | 108 => ⟨S4x32x256, .f32⟩
  | 109 => ⟨S4x32x256, .f32⟩
  | 110 => ⟨S32x256, .f32⟩
  | 111 => ⟨S1x32x256, .f32⟩
  | 112 => ⟨S4x32x256, .f32⟩
  | 113 => ⟨S4x32x256, .f32⟩
  | 114 => ⟨S4x32x256x1, .f32⟩
  | 115 => ⟨S4x32x256x1, .f32⟩
  | 116 => ⟨S4x32x256x1, .f32⟩
  | 117 => ⟨S4x32x256x1, .f32⟩
  | 118 => ⟨S4x32x256x4, .f32⟩
  | 119 => ⟨S4x8192x4, .f32⟩
  | 120 => ⟨S4x8192x3, .f32⟩
  | 121 => ⟨S4x8192x3, .f32⟩
  | 122 => ⟨S_, .f32⟩
  | 123 => ⟨S4, .f32⟩
  | 124 => ⟨S_, .i32⟩
  | 125 => ⟨S4x8192x3, .f32⟩
  | 126 => ⟨S4x8192x3, .f32⟩
  | 127 => ⟨S_, .i32⟩
  | _ => ⟨S4x32x256, .f32⟩

abbrev hbmTy0_1 (i : Nat) : BufTy := match i % 128 with
  | 0 => ⟨S4, .f32⟩
  | 1 => ⟨S_, .i32⟩
  | 2 => ⟨S_, .i1⟩
  | 3 => ⟨S_, .i32⟩
  | 4 => ⟨S_, .i32⟩
  | 5 => ⟨S1x8192x3, .f32⟩
  | 6 => ⟨S8192x3, .f32⟩
  | 7 => ⟨S_, .i32⟩
  | 8 => ⟨S_, .i32⟩
  | 9 => ⟨S1x8192x3, .f32⟩
  | 10 => ⟨S8192x3, .f32⟩
  | 11 => ⟨S8192x3, .f32⟩
  | 12 => ⟨S_, .f32⟩
  | 13 => ⟨S8192, .f32⟩
  | 14 => ⟨S8192x3, .f32⟩
  | 15 => ⟨S_, .f32⟩
  | 16 => ⟨S8192, .f32⟩
  | 17 => ⟨S8192x1, .f32⟩
  | 18 => ⟨S1x8192, .f32⟩
  | 19 => ⟨S8192x8192, .f32⟩
  | 20 => ⟨S8192x8192, .f32⟩
  | 21 => ⟨S8192x8192, .f32⟩
  | 22 => ⟨S3x8192, .f32⟩
  | 23 => ⟨S8192x8192, .f32⟩
  | 24 => ⟨S_, .f32⟩
  | 25 => ⟨S8192x8192, .f32⟩
  | 26 => ⟨S8192x8192, .f32⟩
  | 27 => ⟨S8192x8192, .f32⟩
  | 28 => ⟨S_, .f32⟩
  | 29 => ⟨S8192x8192, .f32⟩
  | 30 => ⟨S8192x8192, .f32⟩
  | 31 => ⟨S_, .f32⟩
  | 32 => ⟨S8192, .f32⟩
  | 33 => ⟨S_, .f32⟩
  | 34 => ⟨S_, .f32⟩
  | 35 => ⟨S_, .f32⟩
  | 36 => ⟨S_, .f32⟩
  | 37 => ⟨S_, .f32⟩
  | 38 => ⟨S8192, .f32⟩
  | 39 => ⟨S_, .f32⟩
  | 40 => ⟨S_, .f32⟩
  | 41 => ⟨S_, .f32⟩
  | 42 => ⟨S_, .f32⟩
  | 43 => ⟨S_, .f32⟩
  | 44 => ⟨S1, .f32⟩
  | 45 => ⟨S4, .f32⟩
  | 46 => ⟨S_, .i32⟩
  | 47 => ⟨S_, .i32⟩
  | 48 => ⟨S_, .f32⟩
  | 49 => ⟨S_, .f32⟩
  | 50 => ⟨S_, .f32⟩
  | 51 => ⟨S_, .f32⟩
  | _ => ⟨S4x32x256, .f32⟩

abbrev hbmTy (i : Nat) : BufTy := match i / 128 with
  | 0 => hbmTy0_0 i
  | 1 => hbmTy0_1 i
  | _ => ⟨S4x32x256, .f32⟩

abbrev bufTy : (tb : Table) → Fin (tcTables nBuf tb) → BufTy
  | .hbm, ⟨i, _⟩ => hbmTy i
  | _, _ => ⟨S4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_8 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_9 : Ref sig .tc := ⟨.hbm, 65, rfl⟩
abbrev main_v53 : Ref sig .tc := ⟨.hbm, 66, rfl⟩
abbrev main_v54 : Ref sig .tc := ⟨.hbm, 67, rfl⟩
abbrev main_cst_10 : Ref sig .tc := ⟨.hbm, 68, rfl⟩
abbrev main_v55 : Ref sig .tc := ⟨.hbm, 69, rfl⟩
abbrev main_v56 : Ref sig .tc := ⟨.hbm, 70, rfl⟩
abbrev main_cst_11 : Ref sig .tc := ⟨.hbm, 71, rfl⟩
abbrev main_v57 : Ref sig .tc := ⟨.hbm, 72, rfl⟩
abbrev main_v58 : Ref sig .tc := ⟨.hbm, 73, rfl⟩
abbrev main_cst_12 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_13 : Ref sig .tc := ⟨.hbm, 78, rfl⟩
abbrev main_v62 : Ref sig .tc := ⟨.hbm, 79, rfl⟩
abbrev main_v63 : Ref sig .tc := ⟨.hbm, 80, rfl⟩
abbrev main_cst_14 : Ref sig .tc := ⟨.hbm, 81, rfl⟩
abbrev main_v64 : Ref sig .tc := ⟨.hbm, 82, rfl⟩
abbrev main_v65 : Ref sig .tc := ⟨.hbm, 83, rfl⟩
abbrev main_cst_15 : Ref sig .tc := ⟨.hbm, 84, rfl⟩
abbrev main_v66 : Ref sig .tc := ⟨.hbm, 85, rfl⟩
abbrev main_v67 : Ref sig .tc := ⟨.hbm, 86, rfl⟩
abbrev main_cst_16 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_17 : Ref sig .tc := ⟨.hbm, 122, rfl⟩
abbrev main_v102 : Ref sig .tc := ⟨.hbm, 123, rfl⟩
abbrev main_c : Ref sig .tc := ⟨.hbm, 124, rfl⟩
abbrev main_v103_0 : Ref sig .tc := ⟨.hbm, 125, rfl⟩
abbrev main_v103_1 : Ref sig .tc := ⟨.hbm, 126, rfl⟩
abbrev main_v103_2 : Ref sig .tc := ⟨.hbm, 127, rfl⟩
abbrev main_v103_3 : Ref sig .tc := ⟨.hbm, 128, rfl⟩
abbrev main_while0c_c_23 : Ref sig .tc := ⟨.hbm, 129, rfl⟩
abbrev main_while0c_v106 : Ref sig .tc := ⟨.hbm, 130, rfl⟩
abbrev main_while0b_call0_c : Ref sig .tc := ⟨.hbm, 131, rfl⟩
abbrev main_while0b_call0_c_0 : Ref sig .tc := ⟨.hbm, 132, rfl⟩
abbrev main_while0b_call0_v0 : Ref sig .tc := ⟨.hbm, 133, rfl⟩
abbrev main_while0b_v106 : Ref sig .tc := ⟨.hbm, 134, rfl⟩
abbrev main_while0b_call1_c : Ref sig .tc := ⟨.hbm, 135, rfl⟩
abbrev main_while0b_call1_c_0 : Ref sig .tc := ⟨.hbm, 136, rfl⟩
abbrev main_while0b_call1_v0 : Ref sig .tc := ⟨.hbm, 137, rfl⟩
abbrev main_while0b_v107 : Ref sig .tc := ⟨.hbm, 138, rfl⟩
abbrev main_while0b_v108 : Ref sig .tc := ⟨.hbm, 139, rfl⟩
abbrev main_while0b_cst_23 : Ref sig .tc := ⟨.hbm, 140, rfl⟩
abbrev main_while0b_v109 : Ref sig .tc := ⟨.hbm, 141, rfl⟩
abbrev main_while0b_v110 : Ref sig .tc := ⟨.hbm, 142, rfl⟩
abbrev main_while0b_cst_24 : Ref sig .tc := ⟨.hbm, 143, rfl⟩
abbrev main_while0b_v111 : Ref sig .tc := ⟨.hbm, 144, rfl⟩
abbrev main_while0b_v112 : Ref sig .tc := ⟨.hbm, 145, rfl⟩
abbrev main_while0b_v113 : Ref sig .tc := ⟨.hbm, 146, rfl⟩
abbrev main_while0b_v114 : Ref sig .tc := ⟨.hbm, 147, rfl⟩
abbrev main_while0b_v115 : Ref sig .tc := ⟨.hbm, 148, rfl⟩
abbrev main_while0b_v116 : Ref sig .tc := ⟨.hbm, 149, rfl⟩
abbrev main_while0b_v117 : Ref sig .tc := ⟨.hbm, 150, rfl⟩
abbrev main_while0b_v118 : Ref sig .tc := ⟨.hbm, 151, rfl⟩
abbrev main_while0b_cst_25 : Ref sig .tc := ⟨.hbm, 152, rfl⟩
abbrev main_while0b_v119 : Ref sig .tc := ⟨.hbm, 153, rfl⟩
abbrev main_while0b_v120 : Ref sig .tc := ⟨.hbm, 154, rfl⟩
abbrev main_while0b_v121 : Ref sig .tc := ⟨.hbm, 155, rfl⟩
abbrev main_while0b_cst_26 : Ref sig .tc := ⟨.hbm, 156, rfl⟩
abbrev main_while0b_v122 : Ref sig .tc := ⟨.hbm, 157, rfl⟩
abbrev main_while0b_v123 : Ref sig .tc := ⟨.hbm, 158, rfl⟩
abbrev main_while0b_cst_27 : Ref sig .tc := ⟨.hbm, 159, rfl⟩
abbrev main_while0b_v124 : Ref sig .tc := ⟨.hbm, 160, rfl⟩
abbrev main_while0b_cst_28 : Ref sig .tc := ⟨.hbm, 161, rfl⟩
abbrev main_while0b_v125 : Ref sig .tc := ⟨.hbm, 162, rfl⟩
abbrev main_while0b_cst_29 : Ref sig .tc := ⟨.hbm, 163, rfl⟩
abbrev main_while0b_v126 : Ref sig .tc := ⟨.hbm, 164, rfl⟩
abbrev main_while0b_cst_30 : Ref sig .tc := ⟨.hbm, 165, rfl⟩
abbrev main_while0b_v127 : Ref sig .tc := ⟨.hbm, 166, rfl⟩
abbrev main_while0b_cst_31 : Ref sig .tc := ⟨.hbm, 167, rfl⟩
abbrev main_while0b_v128 : Ref sig .tc := ⟨.hbm, 168, rfl⟩
abbrev main_while0b_cst_32 : Ref sig .tc := ⟨.hbm, 169, rfl⟩
abbrev main_while0b_v129 : Ref sig .tc := ⟨.hbm, 170, rfl⟩
abbrev main_while0b_v130 : Ref sig .tc := ⟨.hbm, 171, rfl⟩
abbrev main_while0b_call2_v0 : Ref sig .tc := ⟨.hbm, 172, rfl⟩
abbrev main_while0b_v131 : Ref sig .tc := ⟨.hbm, 173, rfl⟩
abbrev main_while0b_c_33 : Ref sig .tc := ⟨.hbm, 174, rfl⟩
abbrev main_while0b_v132 : Ref sig .tc := ⟨.hbm, 175, rfl⟩
abbrev main_cst_18 : Ref sig .tc := ⟨.hbm, 176, rfl⟩
abbrev main_v104 : Ref sig .tc := ⟨.hbm, 177, rfl⟩
abbrev main_cst_19 : Ref sig .tc := ⟨.hbm, 178, rfl⟩
abbrev main_v105 : Ref sig .tc := ⟨.hbm, 179, rfl⟩

abbrev nD : Nat := 1
abbrev τ : Topo := Topo.v7x

variable {F : FTy → Type} [FloatOps F]

abbrev main_while0_count : Scf.Loop 32 := ⟨0#32, 4#32, 1#32⟩
-- ==== Proof.Block.lean ====
/- What one grid point of the kernel computes, read off the generated runs: the eight trips of the row loop as a
   recursion on the pair (sum of the clamped row minima, running column minima), and what the point leaves in the
   output. Nothing here depends on what the floats are. -/
module

public import proofs.«01_k».proof.Proof.Gen.KernelIdeal.Frame
public import Idealize.ShloMosaic.Lib.Pipeline.Value
public import Idealize.ShloMosaic.Lib.Pipeline.ValueKit.Tiles
public import Idealize.ShloMosaic.Lib.VecWindow
public import Idealize.ShloMosaic.Lib.Pointwise

@[expose] public section

noncomputable section

namespace Cert.KernelIdeal.Body

open Idealize.ShloMosaic Idealize.ShloMosaic.TcCoe Idealize.SL.Sem
open Cert.KernelIdeal Cert.KernelIdeal.Gen

variable {F : FTy → Type} [FloatOps F]

/-- Two zero offsets are the zero function. -/
theorem zeros2 : (![0, 0] : Fin 2 → Nat) = fun _ => 0 := funext fun a => by fin_cases a <;> rfl

/-- Three zero offsets are the zero function. -/
theorem zeros3 : (![0, 0, 0] : Fin 3 → Nat) = fun _ => 0 := funext fun a => by fin_cases a <;> rfl

/-- The number of the row of the whole block that is row `r` of its `k`-th part of 1024 rows. -/
def rowOf (k : ℕ) (r : Fin 1024) : Fin 8192 := ⟨(1024 * k + r.val) % 8192, Nat.mod_lt _ (by decide)⟩

/-- For the eight parts there are, the row number is `1024 k + r`. -/
theorem rowOf_val (k : ℕ) (hk : k < 8) (r : Fin 1024) : (rowOf k r).val = 1024 * k + r.val :=
  Nat.mod_eq_of_lt (by have := r.isLt; omega)

/-- The `k`-th part of 1024 points of the first operand. -/
def partOf (x : Vec F S1x8192x3 .bf16) (k : ℕ) : Vec F S1x1024x3 .bf16 := fun j => x (ix3 (j 0) (rowOf k (j 1)) (j 2))

/-- The `k`-th part of 1024 squared norms. -/
def normsOf (x : Vec F S1x8192x1 .f32) (k : ℕ) : Vec F S1x1024x1 .f32 := fun j => x (ix3 (j 0) (rowOf k (j 1)) (j 2))

/-- The pair carried by the row loop before trip `k`: the sum of the clamped row minima so far, and the column
    minima so far (plus infinity at the start). -/
def carried (x0 : Vec F S1x8192x3 .bf16) (x1 : Vec F S1x3x8192 .bf16) (x2 : Vec F S1x8192x1 .f32) (x3 : Vec F S1x1x8192 .f32) :
    ℕ → F .f32 × Vec F S1x8192 .f32
  | 0 => (Scalar.ofBits .f32 0x00000000#32, k0_pay2)
  | k + 1 =>
    (k0_pay5 x1 x3 (carried x0 x1 x2 x3 k).1 (partOf x0 k) (normsOf x2 k),
      k0_pay4 x1 x3 (partOf x0 k) (normsOf x2 k) (carried x0 x1 x2 x3 k).2)

/-- The loop has eight trips. -/
theorem trips_eq : k0_t1_loop.trips = 8 := by decide +kernel

/-- Trip `k`'s load of the first operand reads its `k`-th part. -/
theorem load_part (arg1 : Memref sig .tc .vmem S1x8192x3 .bf16) (harg1 : arg1.IsWhole) (x0 : Vec F S1x8192x3 .bf16)
    (k : Fin k0_t1_loop.trips) :
    arg1.view.readAt (Elt F) (Rect.unit (s := S1x8192x3) (k0_off1 k) S1x1024x3.size (k0_off1_inb k)).toLoadRect (harg1.unread x0)
      = partOf x0 k.val := by
  have hk : k.val < 8 := lt_of_lt_of_eq k.isLt trips_eq
  rw [View.readAt_eq_ld, harg1.read_unread]
  funext j
  refine View.ld_unit_apply_of _ _ _ _ _ _ fun a => ?_
  refine Eq.trans ?_ (congrArg (fun n : ℕ => n + (j a).val) (congrFun (k0_off1_eq k) a).symm)
  match a with
  | ⟨0, _⟩ => exact (Nat.zero_add _).symm
  | ⟨1, _⟩ => exact rowOf_val k.val hk (j 1)
  | ⟨2, _⟩ => exact (Nat.zero_add _).symm

/-- Trip `k`'s load of the squared norms reads their `k`-th part. -/
theorem load_norms (arg3 : Memref sig .tc .vmem S1x8192x1 .f32) (harg3 : arg3.IsWhole) (x2 : Vec F S1x8192x1 .f32)
    (k : Fin k0_t1_loop.trips) :
    arg3.view.readAt (Elt F) (Rect.unit (s := S1x8192x1) (k0_off2 k) S1x1024x1.size (k0_off2_inb k)).toLoadRect (harg3.unread x2)
      = normsOf x2 k.val := by
  have hk : k.val < 8 := lt_of_lt_of_eq k.isLt trips_eq
  rw [View.readAt_eq_ld, harg3.read_unread]
  funext j
  refine View.ld_unit_apply_of _ _ _ _ _ _ fun a => ?_
  refine Eq.trans ?_ (congrArg (fun n : ℕ => n + (j a).val) (congrFun (k0_off2_eq k) a).symm)
  match a with
  | ⟨0, _⟩ => exact (Nat.zero_add _).symm
  | ⟨1, _⟩ => exact rowOf_val k.val hk (j 1)
  | ⟨2, _⟩ => exact (Nat.zero_add _).symm

section Loop

variable (𝒱 : Variants) (c : Dev nD) (bd : Option 𝒱.V) (i : grid0.Coords) (arg1 : Memref sig .tc .vmem S1x8192x3 .bf16) (harg1 : arg1.IsWhole) (arg2 : Memref sig .tc .vmem S1x3x8192 .bf16) (harg2 : arg2.IsWhole) (arg3 : Memref sig .tc .vmem S1x8192x1 .f32) (harg3 : arg3.IsWhole) (arg4 : Memref sig .tc .vmem S1x1x8192 .f32) (harg4 : arg4.IsWhole) (arg5 : Memref sig .tc .vmem S1x1 .f32) (harg5 : arg5.IsWhole) (arg6 : Memref sig .tc .vmem S1x8192 .f32) (harg6 : arg6.IsWhole)
  (v0 : Vec F S1x3x8192 .bf16) (v2 : Vec F S1x1x8192 .f32)

/-- What one trip yields: the sum carried in plus the clamped row minima of its part. -/
theorem trip_yield (x0 : Vec F S1x8192x3 .bf16) (x2 : Vec F S1x8192x1 .f32) (k : Fin k0_t1_loop.trips) (acc : F .f32)
    (f : BufTy.Contents (Elt F) arg6.view.ty) :
    tripR_k0_t1 𝒱 c bd i arg1 harg1 arg2 harg2 arg3 harg3 arg4 harg4 arg5 harg5 arg6 harg6 v0 v2 (harg1.unread x0) (harg3.unread x2) k acc f
      = k0_pay5 v0 v2 acc (partOf x0 k.val) (normsOf x2 k.val) := by
  rw [← load_part arg1 harg1 x0 k, ← load_norms arg3 harg3 x2 k]
  unfold tripR_k0_t1 trip_k0_t1
  rfl

/-- What one trip leaves in the scratch row: the column minima it found there, lowered by those of its part. -/
theorem trip_scratch (x0 : Vec F S1x8192x3 .bf16) (x2 : Vec F S1x8192x1 .f32) (k : Fin k0_t1_loop.trips) (acc : F .f32)
    (f g : BufTy.Contents (Elt F) arg6.view.ty) (L : List (View.Piece (Elt F) S1x8192 .f32)) :
    arg6.view.read (Elt F) (arg6.view.writes (Elt F) g
        (tripL_k0_t1 𝒱 c bd i arg1 harg1 arg2 harg2 arg3 harg3 arg4 harg4 arg5 harg5 arg6 harg6 v0 v2 (harg1.unread x0) (harg3.unread x2) k acc f ++ L))
      = k0_pay4 v0 v2 (partOf x0 k.val) (normsOf x2 k.val) (arg6.view.read (Elt F) f) := by
  rw [← load_part arg1 harg1 x0 k, ← load_norms arg3 harg3 x2 k]
  unfold tripL_k0_t1 trip_k0_t1
  refine (View.read_writes_full (s := S1x8192) arg6.view g inb_S1x8192_S1x8192_0_0 _ L).trans ?_
  refine congrArg (k0_pay4 v0 v2 _ _) ?_
  exact View.readAt_full (s := S1x8192) arg6.view f inb_S1x8192_S1x8192_0_0

/-- Before trip `k` the loop carries `carried k`: its sum, and its column minima in the scratch row. -/
theorem loop_state (x0 : Vec F S1x8192x3 .bf16) (x2 : Vec F S1x8192x1 .f32) (G : BufTy.Contents (Elt F) arg6.view.ty)
    (hG : arg6.view.read (Elt F) G = k0_pay2) (k : ℕ) (hk : k ≤ 8) :
    (st_k0_t1 𝒱 c bd i arg1 harg1 arg2 harg2 arg3 harg3 arg4 harg4 arg5 harg5 arg6 harg6 v0 v2 (harg1.unread x0) (harg3.unread x2) G (Scalar.ofBits .f32 0x00000000#32) k).1
        = (carried x0 v0 x2 v2 k).1
      ∧ arg6.view.read (Elt F) (arg6.view.writes (Elt F) G
          (st_k0_t1 𝒱 c bd i arg1 harg1 arg2 harg2 arg3 harg3 arg4 harg4 arg5 harg5 arg6 harg6 v0 v2 (harg1.unread x0) (harg3.unread x2) G (Scalar.ofBits .f32 0x00000000#32) k).2)
        = (carried x0 v0 x2 v2 k).2 := by
  induction k with
  | zero => exact ⟨rfl, hG⟩
  | succ k ih =>
    obtain ⟨ih1, ih2⟩ := ih (by omega)
    have hk' : k < k0_t1_loop.trips := by rw [trips_eq]; omega
    have e := st_k0_t1_succ (F := F) 𝒱 c bd i arg1 harg1 arg2 harg2 arg3 harg3 arg4 harg4 arg5 harg5 arg6 harg6 v0 v2 (harg1.unread x0) (harg3.unread x2) G (Scalar.ofBits .f32 0x00000000#32) ⟨k, hk'⟩
    dsimp only at e
    rw [e]
    dsimp only
    rw [trip_yield, trip_scratch, ih1, ih2]
    exact ⟨rfl, rfl⟩

end Loop

/-- What a grid point adds to the output holding `xo`: the sum of the clamped row and column minima, scaled. -/
def pointOut (x0 : Vec F S1x8192x3 .bf16) (x1 : Vec F S1x3x8192 .bf16) (x2 : Vec F S1x8192x1 .f32) (x3 : Vec F S1x1x8192 .f32)
    (xo : Vec F S1x1 .f32) : Vec F S1x1 .f32 :=
  k0_pay6 (carried x0 x1 x2 x3 8).1 (carried x0 x1 x2 x3 8).2 xo

section Cases

variable (c : Dev nD) (i : grid0.Coords) (arg1 : Memref sig .tc .vmem S1x8192x3 .bf16) (harg1 : arg1.IsWhole) (arg2 : Memref sig .tc .vmem S1x3x8192 .bf16) (harg2 : arg2.IsWhole) (arg3 : Memref sig .tc .vmem S1x8192x1 .f32) (harg3 : arg3.IsWhole) (arg4 : Memref sig .tc .vmem S1x1x8192 .f32) (harg4 : arg4.IsWhole) (arg5 : Memref sig .tc .vmem S1x1 .f32) (harg5 : arg5.IsWhole) (arg6 : Memref sig .tc .vmem S1x8192 .f32) (harg6 : arg6.IsWhole)
  (x0 : Vec F S1x8192x3 .bf16) (x1 : Vec F S1x3x8192 .bf16) (x2 : Vec F S1x8192x1 .f32) (x3 : Vec F S1x1x8192 .f32)

/-- After the eight trips, the carried sum is the eighth one. -/
theorem after_loop_sum :
    (st_k0_t1 Variants.none c none i arg1 harg1 arg2 harg2 arg3 harg3 arg4 harg4 arg5 harg5 arg6 harg6 x1 x3 (harg1.unread x0) (harg3.unread x2)
        (arg6.view.writes (Elt F) arg6.view.junk [⟨Rect.unit ![0, 0] ![1, 8192] inb_S1x8192_S1x8192_0_0, k0_pay2⟩])
        (FloatOps.ofBits FTy.f32 0#32) (Scf.trips (0#32) (Scalar.addi 0#32 8#32) 1#32)).1 = (carried x0 x1 x2 x3 8).1 := by
  have h8 : Scf.trips (0#32) (Scalar.addi 0#32 8#32) 1#32 = 8 := by decide +kernel
  rw [h8]
  exact (loop_state Variants.none c none i arg1 harg1 arg2 harg2 arg3 harg3 arg4 harg4 arg5 harg5 arg6 harg6 x1 x3 x0 x2 _ (View.read_writes_full (s := S1x8192) arg6.view _ inb_S1x8192_S1x8192_0_0 _ []) 8 le_rfl).1

/-- After the eight trips, a load of the scratch row reads the eighth column minima. -/
theorem after_loop_cols :
    arg6.view.readCov
        ((st_k0_t1 Variants.none c none i arg1 harg1 arg2 harg2 arg3 harg3 arg4 harg4 arg5 harg5 arg6 harg6 x1 x3 (harg1.unread x0) (harg3.unread x2)
            (arg6.view.writes (Elt F) arg6.view.junk [⟨Rect.unit ![0, 0] ![1, 8192] inb_S1x8192_S1x8192_0_0, k0_pay2⟩])
            (FloatOps.ofBits FTy.f32 0#32) (Scf.trips (0#32) (Scalar.addi 0#32 8#32) 1#32)).2 ++
          [⟨Rect.unit ![0, 0] ![1, 8192] inb_S1x8192_S1x8192_0_0, k0_pay2⟩])
        (Rect.unit (s := S1x8192) ![0, 0] ![1, 8192] inb_S1x8192_S1x8192_0_0).toLoadRect = (carried x0 x1 x2 x3 8).2 := by
  have h8 : Scf.trips (0#32) (Scalar.addi 0#32 8#32) 1#32 = 8 := by decide +kernel
  rw [h8]
  unfold View.readCov
  rw [View.writes_append]
  refine (View.readAt_full (s := S1x8192) arg6.view _ inb_S1x8192_S1x8192_0_0).trans ?_
  exact (loop_state Variants.none c none i arg1 harg1 arg2 harg2 arg3 harg3 arg4 harg4 arg5 harg5 arg6 harg6 x1 x3 x0 x2 _ (View.read_writes_full (s := S1x8192) arg6.view _ inb_S1x8192_S1x8192_0_0 _ []) 8 le_rfl).2

/-- At every grid point but the first the point adds to what the output held. -/
theorem later_point (hc0 : ¬cond0_0 i) (xo : Vec F S1x1 .f32) :
    out0_B_4 c i arg1 harg1 arg2 harg2 arg3 harg3 arg4 harg4 arg5 harg5 arg6 harg6 hc0 x0 x1 x2 x3 xo = pointOut x0 x1 x2 x3 xo := by
  unfold out0_B_4
  rw [View.read_writes_eq_canon _ _ _ (cover0_B_4 c i arg1 harg1 arg2 harg2 arg3 harg3 arg4 harg4 arg5 harg5 arg6 harg6 hc0 x0 x1 x2 x3 xo)]
  unfold kernelRun0_B
  dsimp only
  sl_unfold_words
  rw [View.canon_unit_zero zeros2]
  simp only [View.readAt_eq_ld, harg2.read_unread, harg4.read_unread, harg5.read_unread, View.ld_unit_zero (S := S1x1) zeros2,
    View.ld_unit_zero (S := S1x3x8192) zeros3, View.ld_unit_zero (S := S1x1x8192) zeros3]
  rw [after_loop_sum, after_loop_cols]
  rfl

/-- At the first grid point the output starts from zero. -/
theorem first_point (hc0 : cond0_0 i) :
    out0_A_4 c i arg1 harg1 arg2 harg2 arg3 harg3 arg4 harg4 arg5 harg5 arg6 harg6 hc0 x0 x1 x2 x3 = pointOut x0 x1 x2 x3 k0_pay1 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_cons_unit_zero (S := S1x1) zeros2, View.readCov_unit_zero (S := S1x1) _ zeros2]
  simp only [View.readAt_eq_ld, harg2.read_unread, harg4.read_unread,
    View.ld_unit_zero (S := S1x3x8192) zeros3, View.ld_unit_zero (S := S1x1x8192) zeros3]
  rw [after_loop_sum, after_loop_cols]
  rfl

end Cases

end Cert.KernelIdeal.Body

end
-- ==== Proof.Total.lean ====
/- What the kernel's result holds after the four grid points: the output block is carried from point to point, written
   back once after the last, and read out as a scalar. -/
module

public import proofs.«01_k».proof.Proof.Block
public import Idealize.ShloMosaic.Lib.StableHlo.RunRead

@[expose] public section

noncomputable section

namespace Cert.KernelIdeal.Body

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The output block after the first `n + 1` grid points: each point adds its part to what the one before left. -/
def running (c : Dev nD) : (n : ℕ) → n < cfg0.N → Vec F S1x1 .f32
  | 0, h => pointOut (iblk m c 0 ⟨0, h⟩) (iblk m c 1 ⟨0, h⟩) (iblk m c 2 ⟨0, h⟩) (iblk m c 3 ⟨0, h⟩) k0_pay1
  | n + 1, h => pointOut (iblk m c 0 ⟨n + 1, h⟩) (iblk m c 1 ⟨n + 1, h⟩) (iblk m c 2 ⟨n + 1, h⟩) (iblk m c 3 ⟨n + 1, h⟩)
      (running c n (Nat.lt_of_succ_lt h))

/-- The generated run's contents of the output buffer after point `n` are that running block. -/
theorem outsAt_running (c : Dev nD) (n : ℕ) (h : n < cfg0.N) : outsAt0 m c n h = running m c n h := by
  induction n with
  | zero => exact (outsAt0_A m c ⟨0, h⟩ rfl).trans (first_point ..)
  | succ n ih =>
    have hlt : n + 1 < 4 := lt_of_lt_of_eq h N_0
    have hB : ¬(⟨n + 1, h⟩ : Fin cfg0.N).val % 4 = 0 := by
      show ¬(n + 1) % 4 = 0
      omega
    rw [outsAt0_B m c ⟨n + 1, h⟩ hB, later_point]
    exact congrArg (pointOut _ _ _ _) (ih (Nat.lt_of_succ_lt h))

/-- The output block after the last point. -/
def lastOut (c : Dev nD) : Vec F S1x1 .f32 := running m c 3 t0_3.isLt

/-- The one write-back, after the last point, writes that block. -/
theorem written_back (c : Dev nD) (t : Fin cfg0.N) (hf : (cfg0.win 4).flush t = true) :
    (dats m 0 c).flushed 4 t = ((cfg0.win 4).blk t).view.read (Elt F) (lastOut m c) := by
  have hlt : t.val < 4 := lt_of_lt_of_eq t.isLt N_0
  have hmod := (flush0_4 t).mp hf
  obtain rfl : t = t0_3 := Fin.ext (show t.val = 3 by omega)
  show (cfg0.win 4).cut (grid0.coords t0_3) ((dats m 0 c).after 4 t0_3) = _
  rw [after0_4, outsAt_running]
  have hzero : (fun a => win0_4.index t0_3 a * main_call0_v88.ty.shape.size a) = fun _ => 0 :=
    funext fun a => by fin_cases a <;> decide
  exact (Memref.read_access_unit_zero (Elt F) main_call0_v88 hzero (fun a => by rw [congrFun hzero a]; simp) (lastOut m c)).symm

/-- So the result array of the kernel call ends holding it. -/
theorem call_result (c : Dev nD) : (dats m 0 c).arrAt 4 cfg0.N = lastOut m c :=
  (dats m 0 c).arrAt_eq_of_cover 4 (lastOut m c) (written_back m c) fun i =>
    ⟨t0_3, (flush0_4 t0_3).mpr rfl, by
      show i ∈ ((View.whole main_call0_v88).slice (win0_4.rect t0_3)).set
      rw [View.set_slice_whole, Rect.mem_set_unit]
      intro a
      have hi : (i a : Nat) < 1 := lt_of_lt_of_eq (i a).isLt (by fin_cases a <;> rfl)
      have hlo : win0_4.index t0_3 a * win0_4.size a = 0 := by fin_cases a <;> decide +kernel
      have hsz : win0_4.xsize (grid0.coords t0_3) a = 1 := by fin_cases a <;> decide +kernel
      show win0_4.index t0_3 a * win0_4.size a ≤ (i a : Nat)
        ∧ (i a : Nat) < win0_4.index t0_3 a * win0_4.size a + win0_4.xsize (grid0.coords t0_3) a
      omega⟩

/-- The scalar the program returns: the one element of that array. -/
def loss (c : Dev nD) : Buf (Elt F) ((c : Thread nD τ).loc main_v0) := shapeCast S_ (lastOut m c) shapeCasts_S1x1_S_

/-- The host line after the call leaves the result scalar at that element. -/
theorem after_call (c : Dev nD) :
    Pipeline.afterTail₀ cfgs (dats m) 0 (V0 m) [hostOps1] c main_v0 = loss m c := by
  unfold Pipeline.afterTail₀
  simp only [hostOps1, List.flatten_cons, List.flatten_nil, List.append_nil]
  after_reads_simp
  exact congrArg (fun x : Vec F S1x1 .f32 => shapeCast S_ x shapeCasts_S1x1_S_)
    ((Pipeline.withArrays_arr spec0 launch0.win.arr_inj c (V0 m c) _ 4).trans (call_result m c))

/-- The run, read: the result scalar is the loss, and the arguments are unchanged. -/
theorem run : θ_run defs (onTc (τ := τ) (main (F := F))) ⟨m, fun _ => 0, ρ⟩ (fun r => ∀ c : Dev nD,
      r.2.mem ((c.tc : Thread nD τ).loc main_v0) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 (Pipeline.mem_restRefs_of main_v0 (by decide) (by decide))).trans (after_call m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Body

end
-- ==== Proof.Points.lean ====
/- The point of a cloud that a range image gives at one pixel, as extended reals: pixel `(h, w)` looks along a pitch that
   depends on its row and a yaw that depends on its column, and its point is the range times the unit vector of that
   direction. Both programs compute these numbers by the same operations, so they are named once here. All that is
   needed of them later is that they are real numbers when the range is one. -/
module

public import Idealize.ShloMosaic.Lib.Pointwise

@[expose] public section

noncomputable section

namespace Cert.Chamfer

open Idealize.ShloMosaic

/-- A range image: four batches of 32 rows of 256 columns. -/
abbrev Image : Type := (⟨3, ![4, 32, 256]⟩ : Shape).Idx → EReal

/-- The pitch of row `h`: the upper edge of the field of view less the part of it down to the middle of the row. -/
def pitch (h : ℕ) : EReal :=
  Ideal.ofBits .f32 0x3D567750#32
    - Ideal.div (FloatOps.sitofp (F := Ideal) .f32 (BitVec.ofNat 32 h) + Ideal.ofBits .f32 0x3F000000#32)
        (Ideal.ofBits .f32 0x42000000#32) * Ideal.ofBits .f32 0x3EFA35DD#32

/-- The yaw of column `w`: minus pi and the part of the full turn up to the middle of the column. -/
def yaw (w : ℕ) : EReal :=
  Ideal.ofBits .f32 0xC0490FDB#32
    + Ideal.div (FloatOps.sitofp (F := Ideal) .f32 (BitVec.ofNat 32 w) + Ideal.ofBits .f32 0x3F000000#32)
        (Ideal.ofBits .f32 0x43800000#32) * Ideal.ofBits .f32 0x40C90FDB#32

/-- The range at point `n` of batch `b`: pixel `(n / 256, n % 256)`. -/
def range (img : Image) (b : Fin 4) (n : Fin 8192) : EReal :=
  img (ix3 b ⟨n.val / 256, by omega⟩ ⟨n.val % 256, by omega⟩)

/-- The three coordinates of point `n` of batch `b`. -/
def point (img : Image) (b : Fin 4) (n : Fin 8192) (k : Fin 3) : EReal :=
  if k.val = 0 then range img b n * Ideal.cos (pitch (n.val / 256)) * Ideal.cos (yaw (n.val % 256))
  else if k.val = 1 then range img b n * Ideal.cos (pitch (n.val / 256)) * Ideal.sin (yaw (n.val % 256))
  else range img b n * Ideal.sin (pitch (n.val / 256))

/-- An extended real that is a real number. -/
def IsReal (x : EReal) : Prop := ∃ r : ℝ, x = r

/-- A sum of two real numbers is real. -/
theorem IsReal.add {x y : EReal} : IsReal x → IsReal y → IsReal (x + y)
  | ⟨a, ha⟩, ⟨b, hb⟩ => ⟨a + b, by rw [ha, hb, EReal.coe_add]⟩

/-- A difference of two real numbers is real. -/
theorem IsReal.sub {x y : EReal} : IsReal x → IsReal y → IsReal (x - y)
  | ⟨a, ha⟩, ⟨b, hb⟩ => ⟨a - b, by rw [ha, hb, EReal.coe_sub]⟩

/-- A product of two real numbers is real. -/
theorem IsReal.mul {x y : EReal} : IsReal x → IsReal y → IsReal (x * y)
  | ⟨a, ha⟩, ⟨b, hb⟩ => ⟨a * b, by rw [ha, hb, EReal.coe_mul]⟩

/-- A quotient by a real number that is not zero is real. -/
theorem IsReal.div {x y : EReal} (hx : IsReal x) (hy : IsReal y) (h : y ≠ 0) : IsReal (Ideal.div x y) := by
  obtain ⟨a, rfl⟩ := hx
  obtain ⟨b, rfl⟩ := hy
  exact ⟨a * b⁻¹, by rw [Ideal.div, if_neg h, EReal.coe_mul, EReal.coe_inv]⟩

/-- The cosine of a real number is real. -/
theorem IsReal.cos {x : EReal} : IsReal x → IsReal (Ideal.cos x)
  | ⟨a, ha⟩ => ⟨Real.cos a, by rw [ha, Ideal.cos_coe]⟩

/-- The sine of a real number is real. -/
theorem IsReal.sin {x : EReal} : IsReal x → IsReal (Ideal.sin x)
  | ⟨a, ha⟩ => ⟨Real.sin a, by rw [ha, Ideal.sin_coe]⟩

/-- The words of the literals the directions are made of name real numbers. -/
theorem isReal_literals : IsReal (Ideal.ofBits .f32 0x3D567750#32) ∧ IsReal (Ideal.ofBits .f32 0x3F000000#32)
    ∧ IsReal (Ideal.ofBits .f32 0x3EFA35DD#32) ∧ IsReal (Ideal.ofBits .f32 0xC0490FDB#32)
    ∧ IsReal (Ideal.ofBits .f32 0x40C90FDB#32) := by
  refine ⟨?_, ?_, ?_, ?_, ?_⟩ <;> exact ⟨_, by simp [Ideal.ofBits, Ideal.ieee]; rfl⟩

/-- The number of rows, 32, as its word names it. -/
theorem rows_literal : Ideal.ofBits .f32 0x42000000#32 = ((32 : ℝ) : EReal) := by
  simp [Ideal.ofBits, Ideal.ieee]
  rw [← EReal.coe_mul]
  norm_num

/-- The number of columns, 256, as its word names it. -/
theorem columns_literal : Ideal.ofBits .f32 0x43800000#32 = ((256 : ℝ) : EReal) := by
  simp [Ideal.ofBits, Ideal.ieee]
  rw [← EReal.coe_mul]
  norm_num

/-- A pitch is a real number. -/
theorem isReal_pitch (h : ℕ) : IsReal (pitch h) := by
  obtain ⟨h1, h2, h3, -, -⟩ := isReal_literals
  refine h1.sub (IsReal.mul (IsReal.div (IsReal.add ⟨_, rfl⟩ h2) ⟨_, rows_literal⟩ ?_) h3)
  rw [rows_literal]; norm_num

/-- A yaw is a real number. -/
theorem isReal_yaw (w : ℕ) : IsReal (yaw w) := by
  obtain ⟨-, h2, -, h4, h5⟩ := isReal_literals
  refine h4.add (IsReal.mul (IsReal.div (IsReal.add ⟨_, rfl⟩ h2) ⟨_, columns_literal⟩ ?_) h5)
  rw [columns_literal]; norm_num

/-- The coordinates of a point are real numbers when every range of the image is one. -/
theorem isReal_point (img : Image) (hi : ∀ i, IsReal (img i)) (b : Fin 4) (n : Fin 8192) (k : Fin 3) :
    IsReal (point img b n k) := by
  have hr : IsReal (range img b n) := hi _
  unfold point
  split_ifs
  · exact (hr.mul (isReal_pitch _).cos).mul (isReal_yaw _).cos
  · exact (hr.mul (isReal_pitch _).cos).mul (isReal_yaw _).sin
  · exact hr.mul (isReal_pitch _).sin

end Cert.Chamfer

end
-- ==== Proof.Chamfer.lean ====
/- The mathematics of the claim on extended reals, with no program in sight: the two ways to write a squared distance,
   the clamp at zero moved inside a minimum, sums and minima taken part by part, and the two ways to scale the total. -/
module

public import proofs.«01_k».proof.Proof.Points

@[expose] public section

noncomputable section

namespace Cert.Chamfer

open Idealize.ShloMosaic

/-- The least of finitely many extended reals (plus infinity if there are none). -/
def least {n : ℕ} (f : Fin n → EReal) : EReal := Finset.univ.inf f

/-- A fold of `min` from plus infinity is the least value. -/
theorem fold_min {n : ℕ} (f : Fin n → EReal) :
    Finset.univ.fold min (Ideal.ofBits .f32 0x7F800000#32) f = least f := by
  have h : Ideal.ofBits .f32 0x7F800000#32 = ⊤ := by simp [Ideal.ofBits, Ideal.ieee]
  rw [h]
  rfl

/-- Clamping the least value is the least of the clamped values. -/
theorem max_least {n : ℕ} (f : Fin n → EReal) (a : EReal) : max (least f) a = least fun i => max (f i) a :=
  Finset.inf_sup_distrib_right ..

/-- The least of values that are at least zero is at least zero. -/
theorem least_nonneg {n : ℕ} (f : Fin n → EReal) (hf : ∀ i, 0 ≤ f i) : 0 ≤ least f :=
  Finset.le_inf fun i _ => hf i

/-- A running sum over eight parts of 1024 rows each is the sum over all rows. -/
theorem sum_parts (f : Fin 8192 → EReal) (row : ℕ → Fin 1024 → Fin 8192)
    (hrow : ∀ k < 8, ∀ r, (row k r).val = 1024 * k + r.val) (s : ℕ → EReal) (h0 : s 0 = 0)
    (hs : ∀ k, s (k + 1) = s k + ∑ r, f (row k r)) : s 8 = ∑ n, f n := by
  have hpart : ∀ k : ℕ, s k = ∑ j : Fin k, ∑ r, f (row j r) := by
    intro k
    induction k with
    | zero => simpa using h0
    | succ k ih => rw [hs, ih]; exact (Fin.sum_univ_castSucc fun j : Fin (k + 1) => ∑ r, f (row j r)).symm
  rw [hpart, Fin.sum_univ_tiles 8 1024 rfl f]
  refine Finset.sum_congr rfl fun j _ => Finset.sum_congr rfl fun r _ => congrArg f (Fin.ext ?_)
  rw [hrow j j.isLt r]
  show 1024 * j.val + r.val = j.val * 1024 + r.val
  omega

/-- A running minimum over eight parts of 1024 rows each is the least over all rows. -/
theorem least_parts (f : Fin 8192 → EReal) (row : ℕ → Fin 1024 → Fin 8192)
    (hrow : ∀ k < 8, ∀ r, (row k r).val = 1024 * k + r.val) (c : ℕ → EReal) (h0 : c 0 = ⊤)
    (hc : ∀ k, c (k + 1) = min (c k) (least fun r => f (row k r))) : c 8 = least f := by
  have hdown : Antitone c := antitone_nat_of_succ_le fun k => (hc k).le.trans (min_le_left _ _)
  refine le_antisymm (Finset.le_inf fun n _ => ?_) ?_
  · have hn : n = row (n.val / 1024) ⟨n.val % 1024, Nat.mod_lt _ (by decide)⟩ :=
      Fin.ext (by rw [hrow _ (by omega)]; show n.val = 1024 * (n.val / 1024) + n.val % 1024; omega)
    have hle : n.val / 1024 + 1 ≤ 8 := by omega
    calc c 8 ≤ c (n.val / 1024 + 1) := hdown hle
      _ ≤ least fun r => f (row (n.val / 1024) r) := (hc _).le.trans (min_le_right _ _)
      _ ≤ f (row (n.val / 1024) ⟨n.val % 1024, Nat.mod_lt _ (by decide)⟩) :=
        Finset.inf_le (f := fun r => f (row (n.val / 1024) r)) (Finset.mem_univ _)
      _ = f n := by rw [← hn]
  · have hge : ∀ k, least f ≤ c k := by
      intro k
      induction k with
      | zero => rw [h0]; exact le_top
      | succ k ih => rw [hc]; exact le_min ih (Finset.le_inf fun r _ => Finset.inf_le (Finset.mem_univ _))
    exact hge 8

/-- The factor of the product in the squared distance is two. -/
theorem two_literal : Ideal.ofBits .f32 0x40000000#32 = ((2 : ℝ) : EReal) := by
  simp [Ideal.ofBits, Ideal.ieee]
  rw [← EReal.coe_mul]
  norm_num

/-- The kernel's factor is minus two. -/
theorem minus_two_literal : Ideal.ofBits .f32 0xC0000000#32 = ((-2 : ℝ) : EReal) := by
  simp [Ideal.ofBits, Ideal.ieee]
  rw [← EReal.coe_mul]
  norm_num

/-- The squared distance of two points, the way the reference writes it: the two squared norms added, less twice the
    inner product. -/
def distance (p g : Fin 3 → EReal) : EReal :=
  ((∑ k, p k * p k) + ∑ k, g k * g k) - Ideal.ofBits .f32 0x40000000#32 * ∑ k, p k * g k

/-- The squared distance of two points, the way the kernel writes it: its first operand is already scaled by minus two, so the
    inner product is added to the two squared norms. -/
def distanceScaled (p g : Fin 3 → EReal) : EReal :=
  ((p 0 * p 0 + p 1 * p 1 + p 2 * p 2) + (g 0 * g 0 + g 1 * g 1 + g 2 * g 2))
    + ∑ k, Ideal.ofBits .f32 0xC0000000#32 * p k * g k

/-- For real coordinates the two are equal. -/
theorem distanceScaled_eq (p g : Fin 3 → EReal) (hp : ∀ k, IsReal (p k)) (hg : ∀ k, IsReal (g k)) :
    distanceScaled p g = distance p g := by
  choose a ha using hp
  choose b hb using hg
  simp only [distanceScaled, distance, Fin.sum_univ_three, ha, hb, two_literal, minus_two_literal]
  simp only [← EReal.coe_mul, ← EReal.coe_add, ← EReal.coe_sub]
  exact congrArg _ (by ring)

/-- The clamped distance, which both programs take the minima of. -/
def clamped (p g : Fin 8192 → Fin 3 → EReal) (i j : Fin 8192) : EReal := max (distance (p i) (g j)) 0

/-- The sum over the points of the first cloud of the distance to the nearest point of the second. -/
def rowTotal (p g : Fin 8192 → Fin 3 → EReal) : EReal := ∑ i, least fun j => clamped p g i j

/-- The sum over the points of the second cloud of the distance to the nearest point of the first. -/
def columnTotal (p g : Fin 8192 → Fin 3 → EReal) : EReal := ∑ j, least fun i => clamped p g i j

/-- Both totals are at least zero. -/
theorem totals_nonneg (p g : Fin 8192 → Fin 3 → EReal) : 0 ≤ rowTotal p g ∧ 0 ≤ columnTotal p g :=
  ⟨Finset.sum_nonneg fun _ _ => least_nonneg _ fun _ => le_max_right _ _,
    Finset.sum_nonneg fun _ _ => least_nonneg _ fun _ => le_max_right _ _⟩

/-- The number of points of a cloud is 8192. -/
theorem points_literal : Ideal.ofBits .f32 0x46000000#32 = ((8192 : ℝ) : EReal) := by
  simp [Ideal.ofBits, Ideal.ieee]
  rw [← EReal.coe_mul]
  norm_num

/-- The number of batches is four. -/
theorem batches_literal : Ideal.ofBits .f32 0x40800000#32 = ((4 : ℝ) : EReal) := by
  simp [Ideal.ofBits, Ideal.ieee]
  rw [← EReal.coe_mul]
  norm_num

/-- The kernel's last factor is 1 / (4 · 8192). -/
theorem scale_literal : Ideal.ofBits .f32 0x38000000#32 = ((1 / 32768 : ℝ) : EReal) := by
  simp [Ideal.ofBits, Ideal.ieee]
  rw [← EReal.coe_mul]
  norm_num

/-- Dividing by a positive real is multiplying by its reciprocal. -/
theorem div_real (x : EReal) (r : ℝ) (hr : r ≠ 0) : Ideal.div x r = x * ((1 / r : ℝ) : EReal) := by
  rw [Ideal.div, if_neg (by exact_mod_cast hr), one_div, EReal.coe_inv]

/-- Scaling each batch's two totals at once by 1 / (8192 · 4) and adding up is taking the mean of each, adding, and taking the mean
    over the batches: distributing over the sums is allowed because nothing here is negative. -/
theorem means (R C : Fin 4 → EReal) (hR : ∀ b, 0 ≤ R b) (hC : ∀ b, 0 ≤ C b) :
    ((((0 : EReal) + (R 0 + C 0) * Ideal.ofBits .f32 0x38000000#32) + (R 1 + C 1) * Ideal.ofBits .f32 0x38000000#32)
        + (R 2 + C 2) * Ideal.ofBits .f32 0x38000000#32) + (R 3 + C 3) * Ideal.ofBits .f32 0x38000000#32
      = Ideal.div (∑ b, (Ideal.div (R b) (Ideal.ofBits .f32 0x46000000#32) + Ideal.div (C b) (Ideal.ofBits .f32 0x46000000#32)))
          (Ideal.ofBits .f32 0x40800000#32) := by
  have hs : ∀ b, (R b + C b) * ((1 / 32768 : ℝ) : EReal) = (R b + C b) * ((1 / 8192 : ℝ) : EReal) * ((1 / 4 : ℝ) : EReal) := by
    intro b
    rw [mul_assoc, ← EReal.coe_mul]
    norm_num
  have hn : ∀ b, 0 ≤ (R b + C b) * ((1 / 8192 : ℝ) : EReal) := fun b =>
    mul_nonneg (add_nonneg (hR b) (hC b)) (by exact_mod_cast (by norm_num : (0 : ℝ) ≤ 1 / 8192))
  rw [points_literal, batches_literal, scale_literal, div_real _ 4 (by norm_num), Fin.sum_univ_four]
  simp only [div_real _ 8192 (by norm_num : (8192 : ℝ) ≠ 0), hs, zero_add]
  simp only [← EReal.right_distrib_of_nonneg (hR _) (hC _)]
  rw [EReal.right_distrib_of_nonneg (add_nonneg (add_nonneg (hn 0) (hn 1)) (hn 2)) (hn 3),
    EReal.right_distrib_of_nonneg (add_nonneg (hn 0) (hn 1)) (hn 2), EReal.right_distrib_of_nonneg (hn 0) (hn 1)]

/-- The mean over the batches of the two mean nearest distances: what both programs return. -/
def meanDistance (x y : Image) : EReal :=
  Ideal.div (∑ b : Fin 4, (Ideal.div (rowTotal (point x b) (point y b)) (Ideal.ofBits .f32 0x46000000#32)
    + Ideal.div (columnTotal (point x b) (point y b)) (Ideal.ofBits .f32 0x46000000#32))) (Ideal.ofBits .f32 0x40800000#32)

end Cert.Chamfer

end
-- ==== Proof.PointValue.lean ====
/- One grid point of the kernel on extended reals: what the eight trips of the row loop have added up and kept at the
   end, and what the point adds to the output. -/
module

public import proofs.«01_k».proof.Proof.Block
public import proofs.«01_k».proof.Proof.Chamfer

@[expose] public section

noncomputable section

namespace Cert.KernelIdeal.Body

open Idealize.ShloMosaic Idealize.ShloMosaic.TcCoe Idealize.SL.Sem
open Cert.KernelIdeal Cert.KernelIdeal.Gen
open Cert.Chamfer (least fold_min)

set_option maxRecDepth 16384

/-- The minimum of each of 1024 rows of 8192 values. -/
theorem row_minimum (d : FVec Ideal S1024x8192 .f32) (r : Fin 1024) :
    multiReduction .minimumf [1] S1024 d 0x7F800000#32 reduces_S1024x8192_S1024 (.inl rfl) rfl (ix1 r)
      = least fun j : Fin 8192 => d (ix2 r j) := by
  refine (multiReduction_minimumf_eq_fold d _ reduces_S1024x8192_S1024 (.inl rfl) rfl (ix1 r)).trans ?_
  refine (reduces_S1024x8192_S1024.fold_filter_drop_single _ _ d (ix1 r)).trans ?_
  refine Eq.trans ?_ (fold_min fun j : Fin 8192 => d (ix2 r j))
  refine congrArg (fun f => Finset.fold min (Ideal.ofBits .f32 0x7F800000#32) f Finset.univ)
    (funext fun j => congrArg d (funext fun a => Fin.ext ?_))
  match a with
  | ⟨0, _⟩ => rfl
  | ⟨1, _⟩ => rfl

/-- The sum of 1024 values, by the reshapes and the reduction the kernel writes it with. -/
def sumOf (v : FVec Ideal S1024 .f32) : Ideal .f32 :=
  extractAt ![0, 0] (shapeCast S1x1 (multiReduction .add [1] S1 (shapeCast S1x1024 v shapeCasts_S1024_S1x1024) 0x00000000#32
    reduces_S1x1024_S1 (.inl rfl) rfl) shapeCasts_S1_S1x1) inpos_S1x1_p0_0

/-- It is that sum. -/
theorem sumOf_eq (v : FVec Ideal S1024 .f32) : sumOf v = ∑ r : Fin 1024, v (ix1 r) := by
  pointwise [sumOf]

/-- 1024 values, each replaced by zero where it is below zero. -/
def clampOf (v : FVec Ideal S1024 .f32) : FVec Ideal S1024 .f32 :=
  maximumf v (broadcast S1024 (Scalar.ofBits .f32 0x00000000#32))

/-- Each is the larger of itself and zero. -/
theorem clampOf_apply (v : FVec Ideal S1024 .f32) (r : Fin 1024) : clampOf v (ix1 r) = max (v (ix1 r)) 0 := by
  pointwise [clampOf]

/-- The clamped row minima, added up. -/
theorem clamped_minima (d : FVec Ideal S1024x8192 .f32) :
    sumOf (clampOf (multiReduction .minimumf [1] S1024 d 0x7F800000#32 reduces_S1024x8192_S1024 (.inl rfl) rfl))
      = ∑ r : Fin 1024, max (least fun j : Fin 8192 => d (ix2 r j)) 0 :=
  (sumOf_eq _).trans (Finset.sum_congr rfl fun r _ =>
    (clampOf_apply _ r).trans (congrArg (fun x : EReal => max x 0) (row_minimum d r)))

/-- The value at row `r` and column `j` of a part: both squared norms and the inner product. -/
theorem part_distance (x1 : Vec Ideal S1x3x8192 .bf16) (x3 : Vec Ideal S1x1x8192 .f32) (p : Vec Ideal S1x1024x3 .bf16)
    (q : Vec Ideal S1x1024x1 .f32) (r : Fin 1024) (j : Fin 8192) :
    k0_pay3 x1 x3 p q (ix2 r j) = q (ix3 0 r 0) + x3 (ix3 0 0 j) + ∑ k : Fin 3, p (ix3 0 r k) * x1 (ix3 0 k j) := by
  pointwise [k0_pay3]

/-- The column minima after a trip: the smaller of the one before and the least of the part's column. -/
theorem trip_columns (x1 : Vec Ideal S1x3x8192 .bf16) (x3 : Vec Ideal S1x1x8192 .f32) (p : Vec Ideal S1x1024x3 .bf16)
    (q : Vec Ideal S1x1024x1 .f32) (v : Vec Ideal S1x8192 .f32) (j : Fin 8192) :
    k0_pay4 x1 x3 p q v (ix2 0 j) = min (v (ix2 0 j)) (least fun r : Fin 1024 => k0_pay3 x1 x3 p q (ix2 r j)) := by
  rw [← fold_min]
  pointwise [k0_pay4]

/-- The row sum after a trip: the one before and the part's clamped row minima. -/
theorem trip_rows (x1 : Vec Ideal S1x3x8192 .bf16) (x3 : Vec Ideal S1x1x8192 .f32) (p : Vec Ideal S1x1024x3 .bf16)
    (q : Vec Ideal S1x1024x1 .f32) (s : Ideal .f32) :
    k0_pay5 x1 x3 s p q = s + ∑ r : Fin 1024, max (least fun j : Fin 8192 => k0_pay3 x1 x3 p q (ix2 r j)) 0 := by
  exact congrArg (fun x : EReal => s + x) (clamped_minima (k0_pay3 x1 x3 p q))

/-- The value for row `i` and column `j` of the whole block. -/
def whole (x0 : Vec Ideal S1x8192x3 .bf16) (x1 : Vec Ideal S1x3x8192 .bf16) (x2 : Vec Ideal S1x8192x1 .f32)
    (x3 : Vec Ideal S1x1x8192 .f32) (i j : Fin 8192) : EReal :=
  x2 (ix3 0 i 0) + x3 (ix3 0 0 j) + ∑ k : Fin 3, x0 (ix3 0 i k) * x1 (ix3 0 k j)

/-- After the eight trips the row sum is over all 8192 rows. -/
theorem carried_rows (x0 : Vec Ideal S1x8192x3 .bf16) (x1 : Vec Ideal S1x3x8192 .bf16) (x2 : Vec Ideal S1x8192x1 .f32)
    (x3 : Vec Ideal S1x1x8192 .f32) :
    (carried x0 x1 x2 x3 8).1 = ∑ i : Fin 8192, max (least fun j => whole x0 x1 x2 x3 i j) 0 := by
  refine Chamfer.sum_parts (fun i => max (least fun j => whole x0 x1 x2 x3 i j) 0) rowOf rowOf_val
    (fun k => (carried x0 x1 x2 x3 k).1) Ideal.ofBits_zero_f32 fun k => ?_
  refine (trip_rows x1 x3 (partOf x0 k) (normsOf x2 k) (carried x0 x1 x2 x3 k).1).trans ?_
  refine congrArg _ (Finset.sum_congr rfl fun r _ => ?_)
  refine congrArg (fun f => max (least f) 0) (funext fun j => ?_)
  exact part_distance x1 x3 (partOf x0 k) (normsOf x2 k) r j

/-- After the eight trips the column minima are over all 8192 rows. -/
theorem carried_columns (x0 : Vec Ideal S1x8192x3 .bf16) (x1 : Vec Ideal S1x3x8192 .bf16) (x2 : Vec Ideal S1x8192x1 .f32)
    (x3 : Vec Ideal S1x1x8192 .f32) (j : Fin 8192) :
    (carried x0 x1 x2 x3 8).2 (ix2 0 j) = least fun i : Fin 8192 => whole x0 x1 x2 x3 i j := by
  refine Chamfer.least_parts (fun i => whole x0 x1 x2 x3 i j) rowOf rowOf_val
    (fun k => (carried x0 x1 x2 x3 k).2 (ix2 0 j)) ?_ fun k => ?_
  · show k0_pay2 (F := Ideal) (ix2 0 j) = ⊤
    pointwise [k0_pay2]
    simp [Ideal.ofBits, Ideal.ieee]
  · refine (trip_columns x1 x3 (partOf x0 k) (normsOf x2 k) (carried x0 x1 x2 x3 k).2 j).trans ?_
    refine congrArg (fun f => min _ (least f)) (funext fun r => ?_)
    exact part_distance x1 x3 (partOf x0 k) (normsOf x2 k) r j

/-- The last step of a point: the two totals added, scaled, and added to what the output held. -/
theorem last_step (s : Ideal .f32) (v : Vec Ideal S1x8192 .f32) (o : Vec Ideal S1x1 .f32) (i : S1x1.Idx) :
    k0_pay6 s v o i = o i + (s + ∑ j : Fin 8192, max (v (ix2 0 j)) 0) * Ideal.ofBits .f32 0x38000000#32 := by
  pointwise [k0_pay6]
  simp only [Fin.sum_univ_one]

/-- What one grid point leaves in the output. -/
theorem pointOut_apply (x0 : Vec Ideal S1x8192x3 .bf16) (x1 : Vec Ideal S1x3x8192 .bf16) (x2 : Vec Ideal S1x8192x1 .f32)
    (x3 : Vec Ideal S1x1x8192 .f32) (o : Vec Ideal S1x1 .f32) (i : S1x1.Idx) :
    pointOut x0 x1 x2 x3 o i
      = o i + ((∑ i : Fin 8192, max (least fun j => whole x0 x1 x2 x3 i j) 0)
          + ∑ j : Fin 8192, max (least fun i => whole x0 x1 x2 x3 i j) 0) * Ideal.ofBits .f32 0x38000000#32 := by
  refine (last_step _ _ o i).trans ?_
  rw [carried_rows]
  simp only [carried_columns]

end Cert.KernelIdeal.Body

end
-- ==== Proof.Operands.lean ====
/- The four operands of the kernel call, as the host lines before it leave them on extended reals: read at an index,
   each is made of the coordinates of the points of the two range images. -/
module

public import proofs.«01_k».proof.Proof.Gen.KernelIdeal.Frame
public import proofs.«01_k».proof.Proof.Chamfer
public import Idealize.ShloMosaic.Lib.StableHlo.RunRead
public import Idealize.ShloMosaic.Lib.StableHlo.ReadAt

@[expose] public section

noncomputable section

namespace Cert.KernelIdeal.Body

open Idealize.ShloMosaic Idealize.ShloMosaic.TcCoe Idealize.SL.Sem Idealize.ShloMosaic.StableHlo
open Cert.KernelIdeal Cert.KernelIdeal.Gen
open Cert.Chamfer (point)

variable (m : (ℓ : Loc nD τ sig) → Buf (Elt Ideal) ℓ)

set_option maxRecDepth 65536
set_option maxHeartbeats 4000000

/-- The first operand's array, as the contents of a rank 3 buffer. -/
abbrev lhsArray (c : Dev nD) : Vec Ideal S4x8192x3 .bf16 := V0 m c (Proc.devRef .tc main_call0_v80)

/-- The second operand's array. -/
abbrev rhsArray (c : Dev nD) : Vec Ideal S4x3x8192 .bf16 := V0 m c (Proc.devRef .tc main_call0_v85)

/-- The array of the first cloud's squared norms. -/
abbrev firstNorms (c : Dev nD) : Vec Ideal S4x8192x1 .f32 := V0 m c (Proc.devRef .tc main_call0_v86)

/-- The array of the second cloud's squared norms. -/
abbrev secondNorms (c : Dev nD) : Vec Ideal S4x1x8192 .f32 := V0 m c (Proc.devRef .tc main_call0_v87)

/-- The first range image. -/
abbrev firstImage (c : Dev nD) : Chamfer.Image := m ((c.tc : Thread nD τ).loc main_arg0)

/-- The second range image. -/
abbrev secondImage (c : Dev nD) : Chamfer.Image := m ((c.tc : Thread nD τ).loc main_arg1)

/-- The first cloud's squared norms: the squares of the three coordinates added up. -/
theorem firstNorms_apply (c : Dev nD) (b : Fin 4) (n : Fin 8192) :
    firstNorms m c (ix3 b n 0)
      = point (firstImage m c) b n 0 * point (firstImage m c) b n 0 + point (firstImage m c) b n 1 * point (firstImage m c) b n 1
        + point (firstImage m c) b n 2 * point (firstImage m c) b n 2 := by
  unfold firstNorms V0
  simp only [List.flatten_cons, List.flatten_nil, List.append_nil]
  after_reads_at
  rfl

/-- The second cloud's squared norms likewise. -/
theorem secondNorms_apply (c : Dev nD) (b : Fin 4) (n : Fin 8192) :
    secondNorms m c (ix3 b 0 n)
      = point (secondImage m c) b n 0 * point (secondImage m c) b n 0 + point (secondImage m c) b n 1 * point (secondImage m c) b n 1
        + point (secondImage m c) b n 2 * point (secondImage m c) b n 2 := by
  unfold secondNorms V0
  simp only [List.flatten_cons, List.flatten_nil, List.append_nil]
  after_reads_at
  rfl

/-- The second operand holds the second cloud's coordinates, one row for each. -/
theorem rhs_apply (c : Dev nD) (b : Fin 4) (n : Fin 8192) (k : Fin 3) :
    rhsArray m c (ix3 b k n) = point (secondImage m c) b n k := by
  unfold rhsArray V0
  simp only [List.flatten_cons, List.flatten_nil, List.append_nil]
  after_reads_at
  fin_vals k with hk
  all_goals simp only [hk, Nat.reduceSub, Nat.reduceLT, ↓reduceDIte]
  all_goals after_reads_at
  all_goals refine (congrFun (cast_eq rfl _) _).trans ?_
  all_goals pointwise
  all_goals simp only [point, hk, Nat.reduceEqDiff, ↓reduceIte, OfNat.ofNat_ne_zero, one_ne_zero]
  all_goals rfl

/-- The first operand holds the first cloud's coordinates, each times minus two. -/
theorem lhs_apply (c : Dev nD) (b : Fin 4) (n : Fin 8192) (k : Fin 3) :
    lhsArray m c (ix3 b n k) = Ideal.ofBits .f32 0xC0000000#32 * point (firstImage m c) b n k := by
  unfold lhsArray V0
  simp only [List.flatten_cons, List.flatten_nil, List.append_nil]
  after_reads_at
  fin_vals k with hk
  all_goals simp only [hk, Nat.reduceSub, Nat.reduceLT, ↓reduceDIte]
  all_goals after_reads_at
  all_goals refine (congrFun (cast_eq rfl _) _).trans ?_
  all_goals pointwise
  all_goals simp only [point, hk, Nat.reduceEqDiff, ↓reduceIte, OfNat.ofNat_ne_zero, one_ne_zero]
  all_goals rfl

end Cert.KernelIdeal.Body

end
-- ==== Proof.KernelValue.lean ====
/- The kernel's result on extended reals: the four grid points, one batch each, summed into one number, which is the
   mean over the batches of the two mean nearest distances. -/
module

public import proofs.«01_k».proof.Proof.Total
public import proofs.«01_k».proof.Proof.PointValue
public import proofs.«01_k».proof.Proof.Operands

@[expose] public section

noncomputable section

namespace Cert.KernelIdeal.Body

open Idealize.ShloMosaic Idealize.ShloMosaic.TcCoe Idealize.SL.Sem
open Cert.KernelIdeal Cert.KernelIdeal.Gen
open Cert.Chamfer (least point IsReal)

variable (m : (ℓ : Loc nD τ sig) → Buf (Elt Ideal) ℓ)

/-- The number of a grid point is the number of its batch. -/
def batchOf (t : Fin cfg0.N) : Fin 4 := ⟨t.val, lt_of_lt_of_eq t.isLt N_0⟩

/-- The block index of each operand at a point: the batch on the first axis, zero on the others. -/
theorem block_index (t : Fin cfg0.N) :
    (win0_0.index t = ![t.val, 0, 0] ∧ win0_1.index t = ![t.val, 0, 0])
      ∧ (win0_2.index t = ![t.val, 0, 0] ∧ win0_3.index t = ![t.val, 0, 0]) := by
  revert t
  decide +kernel

/-- The block of the first operand at a point is its batch of the array. -/
theorem block_lhs (c : Dev nD) (t : Fin cfg0.N) (n : Fin 8192) (k : Fin 3) :
    (iblk m c 0 t : Vec Ideal S1x8192x3 .bf16) (ix3 0 n k) = lhsArray m c (ix3 (batchOf t) n k) := by
  unfold iblk
  rw [View.read_apply]
  have h := (block_index t).1.1
  have h0 : win0_0.index t 0 = t.val := congrFun h 0
  have h1 : win0_0.index t 1 = 0 := congrFun h 1
  have h2 : win0_0.index t 2 = 0 := congrFun h 2
  refine congrArg (lhsArray m c) (funext fun a => Fin.ext ?_)
  match a with
  | ⟨0, _⟩ => show win0_0.index t 0 * 1 + 1 * 0 = t.val; rw [h0]; simp
  | ⟨1, _⟩ => show win0_0.index t 1 * 8192 + 1 * n.val = n.val; rw [h1]; simp
  | ⟨2, _⟩ => show win0_0.index t 2 * 3 + 1 * k.val = k.val; rw [h2]; simp

/-- The block of the second operand likewise. -/
theorem block_rhs (c : Dev nD) (t : Fin cfg0.N) (k : Fin 3) (n : Fin 8192) :
    (iblk m c 1 t : Vec Ideal S1x3x8192 .bf16) (ix3 0 k n) = rhsArray m c (ix3 (batchOf t) k n) := by
  unfold iblk
  rw [View.read_apply]
  have h := (block_index t).1.2
  have h0 : win0_1.index t 0 = t.val := congrFun h 0
  have h1 : win0_1.index t 1 = 0 := congrFun h 1
  have h2 : win0_1.index t 2 = 0 := congrFun h 2
  refine congrArg (rhsArray m c) (funext fun a => Fin.ext ?_)
  match a with
  | ⟨0, _⟩ => show win0_1.index t 0 * 1 + 1 * 0 = t.val; rw [h0]; simp
  | ⟨1, _⟩ => show win0_1.index t 1 * 3 + 1 * k.val = k.val; rw [h1]; simp
  | ⟨2, _⟩ => show win0_1.index t 2 * 8192 + 1 * n.val = n.val; rw [h2]; simp

/-- The block of the first cloud's squared norms likewise. -/
theorem block_first_norms (c : Dev nD) (t : Fin cfg0.N) (n : Fin 8192) :
    (iblk m c 2 t : Vec Ideal S1x8192x1 .f32) (ix3 0 n 0) = firstNorms m c (ix3 (batchOf t) n 0) := by
  unfold iblk
  rw [View.read_apply]
  have h := (block_index t).2.1
  have h0 : win0_2.index t 0 = t.val := congrFun h 0
  have h1 : win0_2.index t 1 = 0 := congrFun h 1
  have h2 : win0_2.index t 2 = 0 := congrFun h 2
  refine congrArg (firstNorms m c) (funext fun a => Fin.ext ?_)
  match a with
  | ⟨0, _⟩ => show win0_2.index t 0 * 1 + 1 * 0 = t.val; rw [h0]; simp
  | ⟨1, _⟩ => show win0_2.index t 1 * 8192 + 1 * n.val = n.val; rw [h1]; simp
  | ⟨2, _⟩ => show win0_2.index t 2 * 1 + 1 * 0 = 0; rw [h2]

/-- The block of the second cloud's squared norms likewise. -/
theorem block_second_norms (c : Dev nD) (t : Fin cfg0.N) (n : Fin 8192) :
    (iblk m c 3 t : Vec Ideal S1x1x8192 .f32) (ix3 0 0 n) = secondNorms m c (ix3 (batchOf t) 0 n) := by
  unfold iblk
  rw [View.read_apply]
  have h := (block_index t).2.2
  have h0 : win0_3.index t 0 = t.val := congrFun h 0
  have h1 : win0_3.index t 1 = 0 := congrFun h 1
  have h2 : win0_3.index t 2 = 0 := congrFun h 2
  refine congrArg (secondNorms m c) (funext fun a => Fin.ext ?_)
  match a with
  | ⟨0, _⟩ => show win0_3.index t 0 * 1 + 1 * 0 = t.val; rw [h0]; simp
  | ⟨1, _⟩ => show win0_3.index t 1 * 1 + 1 * 0 = 0; rw [h1]
  | ⟨2, _⟩ => show win0_3.index t 2 * 8192 + 1 * n.val = n.val; rw [h2]; simp

/-- What a point's blocks give for row `i` and column `j` is the squared distance of two points of its batch's clouds. -/
theorem whole_eq (h0 : ∀ c i, IsReal (firstImage m c i)) (h1 : ∀ c i, IsReal (secondImage m c i)) (c : Dev nD)
    (t : Fin cfg0.N) (i j : Fin 8192) :
    whole (iblk m c 0 t) (iblk m c 1 t) (iblk m c 2 t) (iblk m c 3 t) i j
      = Chamfer.distance (point (firstImage m c) (batchOf t) i) (point (secondImage m c) (batchOf t) j) := by
  rw [← Chamfer.distanceScaled_eq _ _ (fun k => Chamfer.isReal_point _ (h0 c) _ _ k) fun k => Chamfer.isReal_point _ (h1 c) _ _ k]
  unfold whole Chamfer.distanceScaled
  refine congrArg₂ (· + ·) (congrArg₂ (· + ·) ?_ ?_) (Finset.sum_congr rfl fun k _ => congrArg₂ (· * ·) ?_ ?_)
  · exact (block_first_norms m c t i).trans (firstNorms_apply m c _ i)
  · exact (block_second_norms m c t j).trans (secondNorms_apply m c _ j)
  · exact (block_lhs m c t i k).trans (lhs_apply m c _ i k)
  · exact (block_rhs m c t k j).trans (rhs_apply m c _ j k)

/-- What a point adds to the output: its batch's two totals, scaled. -/
def part (c : Dev nD) (b : Fin 4) : EReal :=
  (Chamfer.rowTotal (point (firstImage m c) b) (point (secondImage m c) b)
    + Chamfer.columnTotal (point (firstImage m c) b) (point (secondImage m c) b)) * Ideal.ofBits .f32 0x38000000#32

/-- A point leaves in the output what it held and that part. -/
theorem point_adds (h0 : ∀ c i, IsReal (firstImage m c i)) (h1 : ∀ c i, IsReal (secondImage m c i)) (c : Dev nD)
    (t : Fin cfg0.N) (o : Vec Ideal S1x1 .f32) (i : S1x1.Idx) :
    pointOut (iblk m c 0 t) (iblk m c 1 t) (iblk m c 2 t) (iblk m c 3 t) o i = o i + part m c (batchOf t) := by
  refine (pointOut_apply _ _ _ _ o i).trans ?_
  simp only [whole_eq m h0 h1, Chamfer.max_least]
  rfl

/-- The output after the four points: the four parts added to zero, in order. -/
theorem lastOut_apply (h0 : ∀ c i, IsReal (firstImage m c i)) (h1 : ∀ c i, IsReal (secondImage m c i)) (c : Dev nD)
    (i : S1x1.Idx) :
    lastOut m c i = ((((0 : EReal) + part m c 0) + part m c 1) + part m c 2) + part m c 3 := by
  simp only [lastOut, running, point_adds m h0 h1]
  refine congrArg (fun x : EReal => x + part m c 0 + part m c 1 + part m c 2 + part m c 3) ?_
  exact Ideal.ofBits_zero_f32

/-- The scalar the kernel returns is that mean. -/
theorem loss_apply (h0 : ∀ c i, IsReal (firstImage m c i)) (h1 : ∀ c i, IsReal (secondImage m c i)) (c : Dev nD) :
    loss m c = fun _ => Chamfer.meanDistance (firstImage m c) (secondImage m c) := by
  funext i
  refine (lastOut_apply m h0 h1 c _).trans ?_
  exact Chamfer.means (fun b => Chamfer.rowTotal (point (firstImage m c) b) (point (secondImage m c) b))
    (fun b => Chamfer.columnTotal (point (firstImage m c) b) (point (secondImage m c) b))
    (fun b => (Chamfer.totals_nonneg _ _).1) fun b => (Chamfer.totals_nonneg _ _).2

end Cert.KernelIdeal.Body

end
-- ==== Proof.RefTrip.lean ====
/- One trip of the reference's loop over the batches, on extended reals: the clamped squared distances of the trip's two
   clouds, their row and column minima, and the entry of the result the trip writes. -/
module

public import proofs.«01_k».proof.Proof.Gen.ReferenceIdeal.Run
public import proofs.«01_k».proof.Proof.Chamfer
public import Idealize.ShloMosaic.Lib.Tactic.CleanTypes

@[expose] public section

noncomputable section

namespace Cert.ReferenceIdeal.Body

open Idealize.ShloMosaic Idealize.ShloMosaic.TcCoe Idealize.SL.Sem Idealize.ShloMosaic.StableHlo
open Cert.ReferenceIdeal Cert.ReferenceIdeal.Gen Cert.ReferenceIdeal.Value
open Cert.Chamfer (least fold_min)

set_option maxRecDepth 65536

/-- The first clouds, all batches, in given buffer contents. -/
abbrev firstClouds (V : Valuation τ sig (Elt Ideal)) : Vec Ideal S4x8192x3 .f32 := V (Proc.devRef .tc main_v103_0)

/-- The second clouds. -/
abbrev secondClouds (V : Valuation τ sig (Elt Ideal)) : Vec Ideal S4x8192x3 .f32 := V (Proc.devRef .tc main_v103_1)

/-- The results of the batches so far. -/
abbrev results (V : Valuation τ sig (Elt Ideal)) : Vec Ideal S4 .f32 := V (Proc.devRef .tc main_v103_3)

/-- The first cloud of the trip's batch: the slice of the first clouds at the counter. -/
theorem trip_first (V : Valuation τ sig (Elt Ideal)) (b : Fin 4)
    (h : V (Proc.devRef .tc main_v103_2) = fun _ => BitVec.ofNat 32 b.val) (n : Fin 8192) (k : Fin 3) :
    (res_main_while0b_v106 V : Vec Ideal S8192x3 .f32) (ix2 n k) = firstClouds V (ix3 b n k) := by
  unfold res_main_while0b_v106
  rw [h]
  clean_types
  pointwise
  refine congrArg (firstClouds V) (funext fun a => Fin.ext ?_)
  fin_cases b <;>
  match a with
  | ⟨0, _⟩ => rfl
  | ⟨1, _⟩ => exact Nat.zero_add _
  | ⟨2, _⟩ => exact Nat.zero_add _

/-- The second cloud of the trip's batch likewise. -/
theorem trip_second (V : Valuation τ sig (Elt Ideal)) (b : Fin 4)
    (h : V (Proc.devRef .tc main_v103_2) = fun _ => BitVec.ofNat 32 b.val) (n : Fin 8192) (k : Fin 3) :
    (res_main_while0b_v107 V : Vec Ideal S8192x3 .f32) (ix2 n k) = secondClouds V (ix3 b n k) := by
  unfold res_main_while0b_v107
  rw [h]
  clean_types
  pointwise
  refine congrArg (secondClouds V) (funext fun a => Fin.ext ?_)
  fin_cases b <;>
  match a with
  | ⟨0, _⟩ => rfl
  | ⟨1, _⟩ => exact Nat.zero_add _
  | ⟨2, _⟩ => exact Nat.zero_add _

/-- The clamped squared distances of two clouds, by the reference's operations. -/
def distances (p g : FVec Ideal S8192x3 .f32) : FVec Ideal S8192x8192 .f32 :=
  maximumf (subf (addf
      (broadcastInDim S8192x8192 ![0, 1] bcast_S8192x1_S8192x8192_0_1 (broadcastInDim S8192x1 ![0] bcast_S8192_S8192x1_0
        (Host.reduceAdd (mulf p p) (constant S_ .f32 0x00000000#32) reducesTo_S8192x3_S8192_d1 h_S_)))
      (broadcastInDim S8192x8192 ![0, 1] bcast_S1x8192_S8192x8192_0_1 (broadcastInDim S1x8192 ![1] bcast_S8192_S1x8192_1
        (Host.reduceAdd (mulf g g) (constant S_ .f32 0x00000000#32) reducesTo_S8192x3_S8192_d1 h_S_))))
    (mulf (broadcastInDim S8192x8192 ![] bcast_S_S8192x8192 (constant S_ .f32 0x40000000#32))
      (Host.dotGeneral dot_S8192x3_S3x8192_S8192x8192_1_0_0_1_n_n none p
        (transpose S3x8192 [1, 0] g transposes_S8192x3_S3x8192_1_0))))
    (broadcastInDim S8192x8192 ![] bcast_S_S8192x8192 (constant S_ .f32 0x00000000#32))

/-- At row `i` and column `j` they are the clamped distance of the two points. -/
theorem distances_apply (p g : FVec Ideal S8192x3 .f32) (i j : Fin 8192) :
    distances p g (ix2 i j) = Chamfer.clamped (fun n k => p (ix2 n k)) (fun n k => g (ix2 n k)) i j := by
  unfold Chamfer.clamped Chamfer.distance
  pointwise [distances]

/-- The least of each row of a square of values. -/
theorem row_minimum (d : FVec Ideal S8192x8192 .f32) (i : Fin 8192) :
    Host.reduce (FloatOps.minimumf (F := Ideal) (φ := .f32)) d (constant S_ .f32 0x7F800000#32) reducesTo_S8192x8192_S8192_d1 h_S_ (ix1 i)
      = least fun j : Fin 8192 => d (ix2 i j) := by
  have hr : S8192x8192.Reduces [1] S8192 := by decide +kernel
  refine (Host.reduce_eq_fold_single FloatOps.minimumf d _ reducesTo_S8192x8192_S8192_d1 hr h_S_ (ix1 i)).trans ?_
  refine Eq.trans ?_ (fold_min fun j : Fin 8192 => d (ix2 i j))
  refine congrArg (fun f => Finset.fold min (Ideal.ofBits .f32 0x7F800000#32) f Finset.univ)
    (funext fun j => congrArg d (funext fun a => Fin.ext ?_))
  match a with
  | ⟨0, _⟩ => rfl
  | ⟨1, _⟩ => rfl

/-- The least of each column. -/
theorem column_minimum (d : FVec Ideal S8192x8192 .f32) (j : Fin 8192) :
    Host.reduce (FloatOps.minimumf (F := Ideal) (φ := .f32)) d (constant S_ .f32 0x7F800000#32) reducesTo_S8192x8192_S8192_d0 h_S_ (ix1 j)
      = least fun i : Fin 8192 => d (ix2 i j) := by
  have hr : S8192x8192.Reduces [0] S8192 := by decide +kernel
  refine (Host.reduce_eq_fold_single FloatOps.minimumf d _ reducesTo_S8192x8192_S8192_d0 hr h_S_ (ix1 j)).trans ?_
  refine Eq.trans ?_ (fold_min fun i : Fin 8192 => d (ix2 i j))
  refine congrArg (fun f => Finset.fold min (Ideal.ofBits .f32 0x7F800000#32) f Finset.univ)
    (funext fun i => congrArg d (funext fun a => Fin.ext ?_))
  match a with
  | ⟨0, _⟩ => rfl
  | ⟨1, _⟩ => rfl

/-- The mean of 8192 values, by the reference's operations. -/
def meanOf (v : FVec Ideal S8192 .f32) : FVec Ideal S_ .f32 :=
  Host.divf (Host.reduceAdd v (constant S_ .f32 0x00000000#32) reducesTo_S8192_S_d0 h_S_) (constant S_ .f32 0x46000000#32)

/-- It is their sum over 8192. -/
theorem meanOf_apply (v : FVec Ideal S8192 .f32) (i : S_.Idx) :
    meanOf v i = Ideal.div (∑ n : Fin 8192, v (ix1 n)) (Ideal.ofBits .f32 0x46000000#32) := by
  pointwise [meanOf]

/-- The value of one batch from its clamped distances: the mean of the row minima plus the mean of the column minima. -/
def batchOf (d : FVec Ideal S8192x8192 .f32) : FVec Ideal S_ .f32 :=
  addf (meanOf (Host.reduce FloatOps.minimumf d (constant S_ .f32 0x7F800000#32) reducesTo_S8192x8192_S8192_d1 h_S_))
    (meanOf (Host.reduce FloatOps.minimumf d (constant S_ .f32 0x7F800000#32) reducesTo_S8192x8192_S8192_d0 h_S_))

/-- That value as sums of least values. -/
theorem batchOf_apply (d : FVec Ideal S8192x8192 .f32) (i : S_.Idx) :
    batchOf d i
      = Ideal.div (∑ i : Fin 8192, least fun j : Fin 8192 => d (ix2 i j)) (Ideal.ofBits .f32 0x46000000#32)
        + Ideal.div (∑ j : Fin 8192, least fun i : Fin 8192 => d (ix2 i j)) (Ideal.ofBits .f32 0x46000000#32) := by
  refine (congrArg₂ (fun a b : EReal => a + b) (meanOf_apply _ i) (meanOf_apply _ i)).trans ?_
  simp only [row_minimum, column_minimum]

/-- The trip leaves the batch's value at its entry of the results and the other entries as they were. -/
theorem trip_results (V : Valuation τ sig (Elt Ideal)) (b : Fin 4)
    (h : V (Proc.devRef .tc main_v103_2) = fun _ => BitVec.ofNat 32 b.val) (a : Fin 4) :
    (step_main_v103_3 V : Vec Ideal S4 .f32) (ix1 a)
      = if a = b then batchOf (distances (res_main_while0b_v106 V) (res_main_while0b_v107 V)) ix0 else results V (ix1 a) := by
  have e : (step_main_v103_3 V : Vec Ideal S4 .f32)
      = Host.dynamicUpdateSlice (results V)
          (broadcastInDim S1 ![] bcast_S_S1 (batchOf (distances (res_main_while0b_v106 V) (res_main_while0b_v107 V))))
          (fun k => (((![V (Proc.devRef .tc main_v103_2)] : Fin 1 → (⟨S_, .i32⟩ : BufTy).Contents (Elt Ideal))) k (Shape.Idx.first h_S_)).toInt)
          updateFits_S4_S1 := rfl
  rw [e, h]
  generalize batchOf (distances (res_main_while0b_v106 V) (res_main_while0b_v107 V)) = w
  generalize results V = u
  clear e h
  pointwise
  fin_cases b <;> fin_cases a <;> rfl

end Cert.ReferenceIdeal.Body

end
-- ==== Proof.RefRun.lean ====
/- The reference's run on extended reals: what its loop starts from, what the four trips make of it, and the mean it
   returns. -/
module

public import proofs.«01_k».proof.Proof.RefTrip
public import Idealize.ShloMosaic.Lib.StableHlo.RunRead
public import Idealize.ShloMosaic.Lib.StableHlo.ReadAt

@[expose] public section

noncomputable section

namespace Cert.ReferenceIdeal.Body

open Idealize.ShloMosaic Idealize.ShloMosaic.TcCoe Idealize.SL.Sem Idealize.ShloMosaic.StableHlo
open Cert.ReferenceIdeal Cert.ReferenceIdeal.Gen Cert.ReferenceIdeal.Value
open Cert.Chamfer (point)

variable (m : (ℓ : Loc nD τ sig) → Buf (Elt Ideal) ℓ)

set_option maxRecDepth 65536

/-- The first range image. -/
abbrev firstImage (c : Dev nD) : Chamfer.Image := m ((c.tc : Thread nD τ).loc main_arg0)

/-- The second range image. -/
abbrev secondImage (c : Dev nD) : Chamfer.Image := m ((c.tc : Thread nD τ).loc main_arg1)

/-- Four values for each pixel stacked on a new last axis, the pixels then numbered through and the first three values kept. -/
def stacked (q0 q1 q2 q3 : FVec Ideal S4x32x256x1 .f32) : FVec Ideal S4x8192x3 .f32 :=
  extractStridedSlice S4x8192x3 ![0, 0, 0]
    (shapeCast S4x8192x4 (concatenate S4x32x256x4 3 [⟨S4x32x256x1, q0⟩, ⟨S4x32x256x1, q1⟩, ⟨S4x32x256x1, q2⟩, ⟨S4x32x256x1, q3⟩]
      concatenates_S4x32x256x1_S4x32x256x1_S4x32x256x1_S4x32x256x1_S4x32x256x4_d3) shapeCasts_S4x32x256x4_S4x8192x4)
    slices_S4x8192x4_S4x8192x3_0_0_0

/-- Read at point `n` and coordinate `k`: the `k`-th of the values at pixel `(n / 256, n % 256)`. -/
theorem stacked_apply (q0 q1 q2 q3 : FVec Ideal S4x32x256x1 .f32) (b : Fin 4) (n : Fin 8192) (k : Fin 3) :
    stacked q0 q1 q2 q3 (ix3 b n k)
      = if k.val = 0 then q0 (ix4 b ⟨n.val / 256, by omega⟩ ⟨n.val % 256, by omega⟩ 0)
        else if k.val = 1 then q1 (ix4 b ⟨n.val / 256, by omega⟩ ⟨n.val % 256, by omega⟩ 0)
        else q2 (ix4 b ⟨n.val / 256, by omega⟩ ⟨n.val % 256, by omega⟩ 0) := by
  pointwise [stacked]
  fin_vals k with hk
  all_goals simp only [hk, Nat.reduceSub, Nat.reduceLT, ↓reduceDIte, Nat.reduceEqDiff, ↓reduceIte, OfNat.ofNat_ne_zero, one_ne_zero]
  all_goals rfl

set_option maxHeartbeats 8000000 in
/-- The loop starts with the points of the first range image. -/
theorem entry_first (c : Dev nD) (b : Fin 4) (n : Fin 8192) (k : Fin 3) :
    firstClouds (entryContents preI m c) (ix3 b n k) = point (firstImage m c) b n k := by
  simp only [firstClouds, entryContents, afterL_cons, afterL_nil]
  after_reads_simp
  refine (stacked_apply _ _ _ _ b n k).trans ?_
  unfold point
  refine if_congr Iff.rfl ?_ (if_congr Iff.rfl ?_ ?_)
  · change upto hostOps0 (launchContents m c) 57 (Proc.tc.devRef main_v44) _ = _
    after_reads_simp
    pointwise
    rfl
  · change upto hostOps0 (launchContents m c) 57 (Proc.tc.devRef main_v45) _ = _
    after_reads_simp
    pointwise
    rfl
  · change upto hostOps0 (launchContents m c) 57 (Proc.tc.devRef main_v46) _ = _
    after_reads_simp
    pointwise
    rfl

set_option maxHeartbeats 8000000 in
/-- The loop starts with the points of the second range image. -/
theorem entry_second (c : Dev nD) (b : Fin 4) (n : Fin 8192) (k : Fin 3) :
    secondClouds (entryContents preI m c) (ix3 b n k) = point (secondImage m c) b n k := by
  simp only [secondClouds, entryContents, afterL_cons, afterL_nil]
  after_reads_simp
  refine (stacked_apply _ _ _ _ b n k).trans ?_
  unfold point
  refine if_congr Iff.rfl ?_ (if_congr Iff.rfl ?_ ?_)
  · change upto hostOps0 (launchContents m c) 115 (Proc.tc.devRef main_v94) _ = _
    after_reads_simp
    pointwise
    rfl
  · change upto hostOps0 (launchContents m c) 115 (Proc.tc.devRef main_v95) _ = _
    after_reads_simp
    pointwise
    rfl
  · change upto hostOps0 (launchContents m c) 115 (Proc.tc.devRef main_v96) _ = _
    after_reads_simp
    pointwise
    rfl

/-- The value of one batch: the mean over the first cloud of the distance to the nearest point of the second, and the
    other way round. -/
def batchValue (x y : Chamfer.Image) (b : Fin 4) : EReal :=
  Ideal.div (Chamfer.rowTotal (point x b) (point y b)) (Ideal.ofBits .f32 0x46000000#32)
    + Ideal.div (Chamfer.columnTotal (point x b) (point y b)) (Ideal.ofBits .f32 0x46000000#32)

/-- What holds before trip `j`: the clouds are those of the images, the counter is `j`, and the first `j` batches have
    their values. -/
structure Holds (x y : Chamfer.Image) (V : Valuation τ sig (Elt Ideal)) (j : Nat) : Prop where
  first : ∀ b n k, firstClouds V (ix3 b n k) = point x b n k
  second : ∀ b n k, secondClouds V (ix3 b n k) = point y b n k
  counter : V (Proc.devRef .tc main_v103_2) = fun _ => BitVec.ofNat 32 j
  done : ∀ a : Fin 4, a.val < j → results V (ix1 a) = batchValue x y a

/-- It holds at the loop's entry. -/
theorem holds_entry (c : Dev nD) : Holds (firstImage m c) (secondImage m c) (entryContents preI m c) 0 where
  first := entry_first m c
  second := entry_second m c
  counter := ctr_entry m c
  done := fun _ h => absurd h (Nat.not_lt_zero _)

/-- The value the trip computes is the batch's. -/
theorem trip_value {x y : Chamfer.Image} {V : Valuation τ sig (Elt Ideal)} {b : Fin 4} (h : Holds x y V b.val) :
    batchOf (distances (res_main_while0b_v106 V) (res_main_while0b_v107 V)) ix0 = batchValue x y b := by
  have e1 : (fun n k => res_main_while0b_v106 V (ix2 n k)) = point x b :=
    funext fun n => funext fun k => (trip_first V b h.counter n k).trans (h.first b n k)
  have e2 : (fun n k => res_main_while0b_v107 V (ix2 n k)) = point y b :=
    funext fun n => funext fun k => (trip_second V b h.counter n k).trans (h.second b n k)
  have hd : ∀ i j : Fin 8192, distances (res_main_while0b_v106 V) (res_main_while0b_v107 V) (ix2 i j)
      = Chamfer.clamped (point x b) (point y b) i j := fun i j => by
    refine (distances_apply _ _ i j).trans ?_
    rw [← e1, ← e2]
  refine (batchOf_apply _ _).trans ?_
  simp only [hd]
  rfl

/-- One trip takes it from `j` to `j + 1`. -/
theorem holds_step {x y : Chamfer.Image} {V : Valuation τ sig (Elt Ideal)} {j : Nat} (hj : j < 4) (h : Holds x y V j) :
    Holds x y (STEP V) (j + 1) where
  first := fun b n k => (congrFun (STEP_main_v103_0 V) (ix3 b n k)).trans (h.first b n k)
  second := fun b n k => (congrFun (STEP_main_v103_1 V) (ix3 b n k)).trans (h.second b n k)
  counter := by
    refine (STEP_main_v103_2 V).trans ?_
    funext i
    refine (congrArg (fun u : BitVec 32 => u + 1#32) (congrFun h.counter i)).trans ?_
    simp [BitVec.ofNat_add]
  done := fun a ha => by
    refine (congrFun (STEP_main_v103_3 V) (ix1 a)).trans ((trip_results V ⟨j, hj⟩ h.counter a).trans ?_)
    split
    · next e => exact e ▸ trip_value (b := ⟨j, hj⟩) h
    · next e => exact h.done a (Nat.lt_of_le_of_ne (Nat.lt_succ_iff.mp ha) fun q => e (Fin.ext q))

/-- It holds after every number of trips up to four. -/
theorem holds_iterate {x y : Chamfer.Image} {V : Valuation τ sig (Elt Ideal)} (h : Holds x y V 0) :
    ∀ j : Nat, j ≤ 4 → Holds x y (STEP^[j] V) j
  | 0, _ => h
  | j + 1, hj => by
    rw [Function.iterate_succ_apply']
    exact holds_step hj (holds_iterate h j (Nat.le_of_succ_le hj))

/-- The mean of four values, by the reference's operations. -/
def meanOfFour (v : FVec Ideal S4 .f32) : FVec Ideal S_ .f32 :=
  Host.divf (Host.reduceAdd v (constant S_ .f32 0x00000000#32) reducesTo_S4_S_d0 h_S_) (constant S_ .f32 0x40800000#32)

/-- It is their sum over four. -/
theorem meanOfFour_apply (v : FVec Ideal S4 .f32) (i : S_.Idx) :
    meanOfFour v i = Ideal.div (∑ b : Fin 4, v (ix1 b)) (Ideal.ofBits .f32 0x40800000#32) := by
  pointwise [meanOfFour]

/-- The reference returns the mean Chamfer distance of the two images. -/
theorem out_eq (c : Dev nD) :
    out_main_v105 (STEP^[4] (entryContents preI m c))
      = fun _ => Chamfer.meanDistance (firstImage m c) (secondImage m c) := by
  have h := holds_iterate (holds_entry m c) 4 (Nat.le_refl 4)
  generalize STEP^[4] (entryContents preI m c) = V at h
  funext i
  refine (meanOfFour_apply (results V) i).trans ?_
  exact congrArg (fun s => Ideal.div s (Ideal.ofBits .f32 0x40800000#32)) (Finset.sum_congr rfl fun b _ => h.done b b.isLt)

end Cert.ReferenceIdeal.Body

end
-- ==== Proof.Finite.lean ====
/- The precondition read off: where it holds, every pixel of both images is a real number. -/
module

public import proofs.«01_k».proof.Proof.Gen.Pre_finite
public import proofs.«01_k».proof.Proof.Points
public import Idealize.ShloMosaic.Lib.ReduceAll

@[expose] public section

noncomputable section

namespace Cert.Pre_finite.Body

open Idealize.ShloMosaic
open Cert.Pre_finite Cert.Pre_finite.Gen
open Cert.Chamfer (IsReal)

/-- A value whose magnitude is below plus infinity is a real number. -/
theorem isReal_of_abs_lt (x : EReal) (h : Ideal.cmp .olt (max x (-x)) (Ideal.ofBits .f32 0x7F800000#32) = 1#1) : IsReal x := by
  have top : Ideal.ofBits .f32 0x7F800000#32 = ⊤ := by simp [Ideal.ofBits, Ideal.ieee]
  rw [top] at h
  induction x with
  | bot => simp [Ideal.cmp] at h
  | top => simp [Ideal.cmp] at h
  | coe r => exact ⟨r, rfl⟩

/-- Two bits whose conjunction is one are both one. -/
theorem both_one (a b : BitVec 1) (h : a &&& b = 1#1) : a = 1#1 ∧ b = 1#1 := by
  revert a b; decide

/-- Where every magnitude is below plus infinity, every value is a real number. -/
theorem isReal_of_all (x : FVec Ideal S4x32x256 .f32) (j : S_.Idx)
    (h : Host.reduce IntOp.andi (cmpf .olt (Host.absf x) (broadcastInDim S4x32x256 ![] bcast_S_S4x32x256 (constant S_ .f32 0x7F800000#32)))
      (constantI S_ 1 1#1) reducesTo_S4x32x256_S_d0_1_2 h_S_ j = 1#1) (i : S4x32x256.Idx) : IsReal (x i) := by
  have : Subsingleton S_.Idx := ⟨fun a b => funext fun k => k.elim0⟩
  exact isReal_of_abs_lt (x i) (Host.reduce_andi_all _ _ _ _ j h i)

/-- Under the precondition both images are real at every pixel. -/
theorem isReal_of_fn (x y : FVec Ideal S4x32x256 .f32) (h : fn x y = fun _ => 1#1) :
    (∀ i, IsReal (x i)) ∧ ∀ i, IsReal (y i) := by
  have hb := both_one _ _ (congrFun h (fun k => k.elim0))
  exact ⟨isReal_of_all x _ hb.1, isReal_of_all y _ hb.2⟩

end Cert.Pre_finite.Body

end
-- ==== Proof.lean ====
/- The claims of `Cert.Claim`, put together: the three frames from the generated runs, the idealization that rewrites
   nothing, and the equality of the two losses over the extended reals. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import proofs.«01_k».proof.Proof.KernelValue
public import proofs.«01_k».proof.Proof.RefRun
public import proofs.«01_k».proof.Proof.Finite
public import Idealize.ShloMosaic.Lib.Quiescent

@[expose] public section

noncomputable section

namespace Cert.Proof

open Idealize.ShloMosaic Idealize.SL.Sem

/-- The kernel as printed terminates, keeps its arguments and leaves every semaphore at zero. -/
theorem kernel_frame : Cert.quiescent_Kernel := fun m ρ _ => Cert.Kernel.Gen.frame m ρ

/-- The kernel over the extended reals terminates, keeps its arguments and leaves every semaphore at zero. -/
theorem kernelIdeal_frame : Cert.quiescent_KernelIdeal := fun m ρ _ => Cert.KernelIdeal.Gen.frame m ρ

/-- The reference over the extended reals terminates and keeps its arguments; it declares no semaphore. -/
theorem referenceIdeal_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over the extended reals, from images whose pixels are real numbers, the kernel and the reference both end with the
    mean Chamfer distance of the two images. -/
theorem losses_equal : Cert.algebraic_KernelIdeal_ReferenceIdeal_pre_finite := by
  intro m g m' g' hp ha
  have real := fun c => Cert.Pre_finite.Body.isReal_of_fn _ _ (hp c)
  have value := Cert.KernelIdeal.Body.loss_apply m (fun c => (real c).1) (fun c => (real c).2)
  refine ⟨fun c => Cert.KernelIdeal.Body.loss m c, Cert.KernelIdeal.Body.run m g, ?_⟩
  refine (θ_run Cert.ReferenceIdeal.defs _ _).mono (fun r h c => ⟨(h c).1.trans ?_, (h c).2⟩)
    (Cert.ReferenceIdeal.Value.run (F := Ideal) m' g')
  have images : Chamfer.meanDistance (Cert.ReferenceIdeal.Body.firstImage m' c) (Cert.ReferenceIdeal.Body.secondImage m' c)
      = Chamfer.meanDistance (Cert.KernelIdeal.Body.firstImage m c) (Cert.KernelIdeal.Body.secondImage m c) :=
    congrArg₂ Chamfer.meanDistance (ha c).1 (ha c).2
  exact (Cert.ReferenceIdeal.Body.out_eq m' c).trans ((funext fun _ => images).trans (value c).symm)

/-- All the claims. -/
theorem claim : Cert.Claim :=
  ⟨Cert.Kernel.Gen.facts, Cert.KernelIdeal.Gen.facts, Cert.ReferenceIdeal.Gen.facts, Cert.Pre_finite.Gen.facts,
    kernel_frame, kernelIdeal_frame, fun m ρ _ => Cert.KernelIdeal.Gen.frame m ρ,
    referenceIdeal_frame, fun m ρ _ => referenceIdeal_frame m ρ trivial, trivial, losses_equal⟩

end Cert.Proof

end
